-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S4x128x256 : Shape := ⟨3, ![4, 128, 256]⟩
abbrev S15x4x128x256 : Shape := ⟨4, ![15, 4, 128, 256]⟩
abbrev S4 : Shape := ⟨1, ![4]⟩
abbrev S15x4 : Shape := ⟨2, ![15, 4]⟩
abbrev S_ : Shape := ⟨0, ![]⟩
abbrev S128x128 : Shape := ⟨2, ![128, 128]⟩
abbrev S128x256 : Shape := ⟨2, ![128, 256]⟩
abbrev S1x128x256 : Shape := ⟨3, ![1, 128, 256]⟩
abbrev S1 : Shape := ⟨1, ![1]⟩
abbrev S1x1 : Shape := ⟨2, ![1, 1]⟩
abbrev S1x1x128x256 : Shape := ⟨4, ![1, 1, 128, 256]⟩

abbrev nBuf : Space → Nat
  | .hbm => 3
  | .vmem => 9
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S128x2048, .f32⟩
  | .local _ .vmem, ⟨0, _⟩ => ⟨S2048x128, .bf16⟩
  | .local _ .vmem, ⟨1, _⟩ => ⟨S128x2048, .bf16⟩
  | .local _ .vmem, ⟨2, _⟩ => ⟨S128x2048, .f32⟩
  | .local _ .vmem, ⟨3, _⟩ => ⟨S2048x128, .bf16⟩
  | .local _ .vmem, ⟨4, _⟩ => ⟨S128x2048, .bf16⟩
  | .local _ .vmem, ⟨5, _⟩ => ⟨S4x128x256, .bf16⟩
  | .local _ .vmem, ⟨6, _⟩ => ⟨S4x128x256, .bf16⟩
  | .local _ .vmem, ⟨7, _⟩ => ⟨S15x4x128x256, .bf16⟩
  | .local _ .vmem, ⟨8, _⟩ => ⟨S15x4x128x256, .bf16⟩
  | _, _ => ⟨S2048x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_93 : BitVec 32 := 1#32
  let v116 : BitVec 32 := Scalar.muli v114 c1_i32_93
  let v117 : BitVec 32 := Scalar.addi c0_i32_94 v116
  v117.toNat
def k0_dev2 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_96 : BitVec 32 := 1#32
  let v118 : BitVec 32 := Scalar.muli v73 c1_i32_96
  let v119 : BitVec 32 := Scalar.addi c0_i32_97 v118
  v119.toNat
def k0_off1 (d0 : Dev nD) (c0_i32_106 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v130 : BitVec 32 := Scalar.subi v32 c0_i32_106
  let c1_i32_107 : BitVec 32 := 1#32
  let v131 : BitVec 32 := Scalar.subi v130 c1_i32_107
  let c16_i32_108 : BitVec 32 := 16#32
  let c0_i32_109 : BitVec 32 := 0#32
  let v132 : BitVec 1 := Scalar.cmpi .eq c16_i32_108 c0_i32_109
  let c1_i32_110 : BitVec 32 := 1#32
  let v133 : BitVec 32 := Scalar.select v132 c1_i32_110 c16_i32_108
  let v134 : BitVec 32 := Scalar.remsi v131 v133
  let c0_i32_112 : BitVec 32 := 0#32
  let v136 : BitVec 1 := Scalar.cmpi .slt v134 c0_i32_112
  let c0_i32_113 : BitVec 32 := 0#32
  let v137 : BitVec 1 := Scalar.cmpi .slt v133 c0_i32_113
  let v138 : BitVec 1 := Scalar.xori v136 v137
  let c0_i32_111 : BitVec 32 := 0#32
  let v135 : BitVec 1 := Scalar.cmpi .ne v134 c0_i32_111
  let v139 : BitVec 1 := Scalar.andi v138 v135
  let v140 : BitVec 32 := Scalar.addi v134 v133
  let v141 : BitVec 32 := Scalar.select v139 v140 v134
  let c15_i32_143 : BitVec 32 := 15#32
  let v170 : BitVec 1 := Scalar.cmpi .eq v141 c15_i32_143
  let c3_i32_144 : BitVec 32 := 3#32
  let c14_i32_141 : BitVec 32 := 14#32
  let v168 : BitVec 1 := Scalar.cmpi .eq v141 c14_i32_141
  let c7_i32_142 : BitVec 32 := 7#32
  let c13_i32_139 : BitVec 32 := 13#32
  let v166 : BitVec 1 := Scalar.cmpi .eq v141 c13_i32_139
  let c11_i32_140 : BitVec 32 := 11#32
  let c12_i32_137 : BitVec 32 := 12#32
  let v164 : BitVec 1 := Scalar.cmpi .eq v141 c12_i32_137
  let c15_i32_138 : BitVec 32 := 15#32
  let c11_i32_135 : BitVec 32 := 11#32
  let v162 : BitVec 1 := Scalar.cmpi .eq v141 c11_i32_135
  let c14_i32_136 : BitVec 32 := 14#32
  let c10_i32_133 : BitVec 32 := 10#32
  let v160 : BitVec 1 := Scalar.cmpi .eq v141 c10_i32_133
  let c10_i32_134 : BitVec 32 := 10#32
  let c9_i32_131 : BitVec 32 := 9#32
  let v158 : BitVec 1 := Scalar.cmpi .eq v141 c9_i32_131
  let c6_i32_132 : BitVec 32 := 6#32
  let c8_i32_129 : BitVec 32 := 8#32
  let v156 : BitVec 1 := Scalar.cmpi .eq v141 c8_i32_129
  let c2_i32_130 : BitVec 32 := 2#32
  let c7_i32_127 : BitVec 32 := 7#32
  let v154 : BitVec 1 := Scalar.cmpi .eq v141 c7_i32_127
  let c1_i32_128 : BitVec 32 := 1#32
  let c6_i32_125 : BitVec 32 := 6#32
  let v152 : BitVec 1 := Scalar.cmpi .eq v141 c6_i32_125
  let c5_i32_126 : BitVec 32 := 5#32
  let c5_i32_123 : BitVec 32 := 5#32
  let v150 : BitVec 1 := Scalar.cmpi .eq v141 c5_i32_123
  let c9_i32_124 : BitVec 32 := 9#32
  let c4_i32_121 : BitVec 32 := 4#32
  let v148 : BitVec 1 := Scalar.cmpi .eq v141 c4_i32_121
  let c13_i32_122 : BitVec 32 := 13#32
  let c3_i32_119 : BitVec 32 := 3#32
  let v146 : BitVec 1 := Scalar.cmpi .eq v141 c3_i32_119
  let c12_i32_120 : BitVec 32 := 12#32
  let c2_i32_117 : BitVec 32 := 2#32
  let v144 : BitVec 1 := Scalar.cmpi .eq v141 c2_i32_117
  let c8_i32_118 : BitVec 32 := 8#32
  let c1_i32_114 : BitVec 32 := 1#32
  let v142 : BitVec 1 := Scalar.cmpi .eq v141 c1_i32_114
  let c4_i32_115 : BitVec 32 := 4#32
  let c0_i32_116 : BitVec 32 := 0#32
  let v143 : BitVec 32 := Scalar.select v142 c4_i32_115 c0_i32_116
  let v145 : BitVec 32 := Scalar.select v144 c8_i32_118 v143
  let v147 : BitVec 32 := Scalar.select v146 c12_i32_120 v145
  let v149 : BitVec 32 := Scalar.select v148 c13_i32_122 v147
  let v151 : BitVec 32 := Scalar.select v150 c9_i32_124 v149
  let v153 : BitVec 32 := Scalar.select v152 c5_i32_126 v151
  let v155 : BitVec 32 := Scalar.select v154 c1_i32_128 v153
  let v157 : BitVec 32 := Scalar.select v156 c2_i32_130 v155
  let v159 : BitVec 32 := Scalar.select v158 c6_i32_132 v157
  let v161 : BitVec 32 := Scalar.select v160 c10_i32_134 v159
  let v163 : BitVec 32 := Scalar.select v162 c14_i32_136 v161
  let v165 : BitVec 32 := Scalar.select v164 c15_i32_138 v163
  let v167 : BitVec 32 := Scalar.select v166 c11_i32_140 v165
  let v169 : BitVec 32 := Scalar.select v168 c7_i32_142 v167
  let v171 : BitVec 32 := Scalar.select v170 c3_i32_144 v169
  let c128_i32 : BitVec 32 := 128#32
  let v214 : BitVec 32 := Scalar.muli v171 c128_i32
  let v215 : Index := Scalar.indexCast v214
  let c0_184 : Index := 0#32
  ![v215.toNat, 0]
def k0_dev3 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_196 : BitVec 32 := 1#32
  let v223 : BitVec 32 := Scalar.muli v73 c1_i32_196
  let v224 : BitVec 32 := Scalar.addi c0_i32_197 v223
  v224.toNat
def k0_off2 (d0 : Dev nD) (c0_i32_145 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v172 : BitVec 32 := Scalar.addi v32 c0_i32_145
  let c1_i32_146 : BitVec 32 := 1#32
  let v173 : BitVec 32 := Scalar.addi v172 c1_i32_146
  let c16_i32_147 : BitVec 32 := 16#32
  let c0_i32_148 : BitVec 32 := 0#32
  let v174 : BitVec 1 := Scalar.cmpi .eq c16_i32_147 c0_i32_148
  let c1_i32_149 : BitVec 32 := 1#32
  let v175 : BitVec 32 := Scalar.select v174 c1_i32_149 c16_i32_147
  let v176 : BitVec 32 := Scalar.remsi v173 v175
  let c0_i32_151 : BitVec 32 := 0#32
  let v178 : BitVec 1 := Scalar.cmpi .slt v176 c0_i32_151
  let c0_i32_152 : BitVec 32 := 0#32
  let v179 : BitVec 1 := Scalar.cmpi .slt v175 c0_i32_152
  let v180 : BitVec 1 := Scalar.xori v178 v179
  let c0_i32_150 : BitVec 32 := 0#32
  let v177 : BitVec 1 := Scalar.cmpi .ne v176 c0_i32_150
  let v181 : BitVec 1 := Scalar.andi v180 v177
  let v182 : BitVec 32 := Scalar.addi v176 v175
  let v183 : BitVec 32 := Scalar.select v181 v182 v176
  let c15_i32_182 : BitVec 32 := 15#32
  let v212 : BitVec 1 := Scalar.cmpi .eq v183 c15_i32_182
  let c3_i32_183 : BitVec 32 := 3#32
  let c14_i32_180 : BitVec 32 := 14#32
  let v210 : BitVec 1 := Scalar.cmpi .eq v183 c14_i32_180
  let c7_i32_181 : BitVec 32 := 7#32
  let c13_i32_178 : BitVec 32 := 13#32
  let v208 : BitVec 1 := Scalar.cmpi .eq v183 c13_i32_178
  let c11_i32_179 : BitVec 32 := 11#32
  let c12_i32_176 : BitVec 32 := 12#32
  let v206 : BitVec 1 := Scalar.cmpi .eq v183 c12_i32_176
  let c15_i32_177 : BitVec 32 := 15#32
  let c11_i32_174 : BitVec 32 := 11#32
  let v204 : BitVec 1 := Scalar.cmpi .eq v183 c11_i32_174
  let c14_i32_175 : BitVec 32 := 14#32
  let c10_i32_172 : BitVec 32 := 10#32
  let v202 : BitVec 1 := Scalar.cmpi .eq v183 c10_i32_172
  let c10_i32_173 : BitVec 32 := 10#32
  let c9_i32_170 : BitVec 32 := 9#32
  let v200 : BitVec 1 := Scalar.cmpi .eq v183 c9_i32_170
  let c6_i32_171 : BitVec 32 := 6#32
  let c8_i32_168 : BitVec 32 := 8#32
  let v198 : BitVec 1 := Scalar.cmpi .eq v183 c8_i32_168
  let c2_i32_169 : BitVec 32 := 2#32
  let c7_i32_166 : BitVec 32 := 7#32
  let v196 : BitVec 1 := Scalar.cmpi .eq v183 c7_i32_166
  let c1_i32_167 : BitVec 32 := 1#32
  let c6_i32_164 : BitVec 32 := 6#32
  let v194 : BitVec 1 := Scalar.cmpi .eq v183 c6_i32_164
  let c5_i32_165 : BitVec 32 := 5#32
  let c5_i32_162 : BitVec 32 := 5#32
  let v192 : BitVec 1 := Scalar.cmpi .eq v183 c5_i32_162
  let c9_i32_163 : BitVec 32 := 9#32
  let c4_i32_160 : BitVec 32 := 4#32
  let v190 : BitVec 1 := Scalar.cmpi .eq v183 c4_i32_160
  let c13_i32_161 : BitVec 32 := 13#32
  let c3_i32_158 : BitVec 32 := 3#32
  let v188 : BitVec 1 := Scalar.cmpi .eq v183 c3_i32_158
  let c12_i32_159 : BitVec 32 := 12#32
  let c2_i32_156 : BitVec 32 := 2#32
  let v186 : BitVec 1 := Scalar.cmpi .eq v183 c2_i32_156
  let c8_i32_157 : BitVec 32 := 8#32
  let c1_i32_153 : BitVec 32 := 1#32
  let v184 : BitVec 1 := Scalar.cmpi .eq v183 c1_i32_153
  let c4_i32_154 : BitVec 32 := 4#32
  let c0_i32_155 : BitVec 32 := 0#32
  let v185 : BitVec 32 := Scalar.select v184 c4_i32_154 c0_i32_155
  let v187 : BitVec 32 := Scalar.select v186 c8_i32_157 v185
  let v189 : BitVec 32 := Scalar.select v188 c12_i32_159 v187
  let v191 : BitVec 32 := Scalar.select v190 c13_i32_161 v189
  let v193 : BitVec 32 := Scalar.select v192 c9_i32_163 v191
  let v195 : BitVec 32 := Scalar.select v194 c5_i32_165 v193
  let v197 : BitVec 32 := Scalar.select v196 c1_i32_167 v195
  let v199 : BitVec 32 := Scalar.select v198 c2_i32_169 v197
  let v201 : BitVec 32 := Scalar.select v200 c6_i32_171 v199
  let v203 : BitVec 32 := Scalar.select v202 c10_i32_173 v201
  let v205 : BitVec 32 := Scalar.select v204 c14_i32_175 v203
  let v207 : BitVec 32 := Scalar.select v206 c15_i32_177 v205
  let v209 : BitVec 32 := Scalar.select v208 c11_i32_179 v207
  let v211 : BitVec 32 := Scalar.select v210 c7_i32_181 v209
  let v213 : BitVec 32 := Scalar.select v212 c3_i32_183 v211
  let c128_i32_202 : BitVec 32 := 128#32
  let v233 : BitVec 32 := Scalar.muli v213 c128_i32_202
  let v234 : Index := Scalar.indexCast v233
  let c0_203 : Index := 0#32
  ![v234.toNat, 0]
def k0_dev4 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_215 : BitVec 32 := 1#32
  let v242 : BitVec 32 := Scalar.muli v114 c1_i32_215
  let v243 : BitVec 32 := Scalar.addi c0_i32_216 v242
  v243.toNat
def k0_dev5 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_233 : BitVec 32 := 1#32
  let v261 : BitVec 32 := Scalar.muli v73 c1_i32_233
  let v262 : BitVec 32 := Scalar.addi c0_i32_234 v261
  v262.toNat
def k0_dev6 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_252 : BitVec 32 := 1#32
  let v280 : BitVec 32 := Scalar.muli v114 c1_i32_252
  let v281 : BitVec 32 := Scalar.addi c0_i32_253 v280
  v281.toNat
def k0_dev7 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_270 : BitVec 32 := 1#32
  let v299 : BitVec 32 := Scalar.muli v73 c1_i32_270
  let v300 : BitVec 32 := Scalar.addi c0_i32_271 v299
  v300.toNat
def k0_dev8 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_289 : BitVec 32 := 1#32
  let v318 : BitVec 32 := Scalar.muli v114 c1_i32_289
  let v319 : BitVec 32 := Scalar.addi c0_i32_290 v318
  v319.toNat
def k0_dev9 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_307 : BitVec 32 := 1#32
  let v337 : BitVec 32 := Scalar.muli v73 c1_i32_307
  let v338 : BitVec 32 := Scalar.addi c0_i32_308 v337
  v338.toNat
def k0_dev10 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_326 : BitVec 32 := 1#32
  let v356 : BitVec 32 := Scalar.muli v114 c1_i32_326
  let v357 : BitVec 32 := Scalar.addi c0_i32_327 v356
  v357.toNat
def k0_dev11 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_451 : BitVec 32 := 1#32
  let v476 : BitVec 32 := Scalar.muli v73 c1_i32_451
  let v477 : BitVec 32 := Scalar.addi c0_i32_452 v476
  v477.toNat
def k0_dev12 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_498 : BitVec 32 := 1#32
  let v512 : BitVec 32 := Scalar.muli v114 c1_i32_498
  let v513 : BitVec 32 := Scalar.addi c0_i32_499 v512
  v513.toNat
def k0_dev13 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_545 : BitVec 32 := 1#32
  let v548 : BitVec 32 := Scalar.muli v73 c1_i32_545
  let v549 : BitVec 32 := Scalar.addi c0_i32_546 v548
  v549.toNat
def k0_dev14 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_592 : BitVec 32 := 1#32
  let v584 : BitVec 32 := Scalar.muli v114 c1_i32_592
  let v585 : BitVec 32 := Scalar.addi c0_i32_593 v584
  v585.toNat
def k0_dev15 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_639 : BitVec 32 := 1#32
  let v620 : BitVec 32 := Scalar.muli v73 c1_i32_639
  let v621 : BitVec 32 := Scalar.addi c0_i32_640 v620
  v621.toNat
def k0_dev16 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_686 : BitVec 32 := 1#32
  let v656 : BitVec 32 := Scalar.muli v114 c1_i32_686
  let v657 : BitVec 32 := Scalar.addi c0_i32_687 v656
  v657.toNat
def k0_dev17 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_733 : BitVec 32 := 1#32
  let v692 : BitVec 32 := Scalar.muli v73 c1_i32_733
  let v693 : BitVec 32 := Scalar.addi c0_i32_734 v692
  v693.toNat
def k0_dev18 (d0 : Dev nD) : Nat :=
  let c0_i32_781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_780 : BitVec 32 := 1#32
  let v728 : BitVec 32 := Scalar.muli v114 c1_i32_780
  let v729 : BitVec 32 := Scalar.addi c0_i32_781 v728
  v729.toNat
def k0_dev19 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_905 : BitVec 32 := 1#32
  let v848 : BitVec 32 := Scalar.muli v73 c1_i32_905
  let v849 : BitVec 32 := Scalar.addi c0_i32_906 v848
  v849.toNat
def k0_dev20 (d0 : Dev nD) : Nat :=
  let c0_i32_953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_952 : BitVec 32 := 1#32
  let v884 : BitVec 32 := Scalar.muli v114 c1_i32_952
  let v885 : BitVec 32 := Scalar.addi c0_i32_953 v884
  v885.toNat
def k0_dev21 (d0 : Dev nD) : Nat :=
  let c0_i32_1000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_999 : BitVec 32 := 1#32
  let v920 : BitVec 32 := Scalar.muli v73 c1_i32_999
  let v921 : BitVec 32 := Scalar.addi c0_i32_1000 v920
  v921.toNat
def k0_dev22 (d0 : Dev nD) : Nat :=
  let c0_i32_1047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1046 : BitVec 32 := 1#32
  let v956 : BitVec 32 := Scalar.muli v114 c1_i32_1046
  let v957 : BitVec 32 := Scalar.addi c0_i32_1047 v956
  v957.toNat
def k0_dev23 (d0 : Dev nD) : Nat :=
  let c0_i32_1094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_1093 : BitVec 32 := 1#32
  let v992 : BitVec 32 := Scalar.muli v73 c1_i32_1093
  let v993 : BitVec 32 := Scalar.addi c0_i32_1094 v992
  v993.toNat
def k0_dev24 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1140 : BitVec 32 := 1#32
  let v1028 : BitVec 32 := Scalar.muli v114 c1_i32_1140
  let v1029 : BitVec 32 := Scalar.addi c0_i32_1141 v1028
  v1029.toNat
def k0_dev25 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_1187 : BitVec 32 := 1#32
  let v1064 : BitVec 32 := Scalar.muli v73 c1_i32_1187
  let v1065 : BitVec 32 := Scalar.addi c0_i32_1188 v1064
  v1065.toNat
def k0_dev26 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1234 : BitVec 32 := 1#32
  let v1100 : BitVec 32 := Scalar.muli v114 c1_i32_1234
  let v1101 : BitVec 32 := Scalar.addi c0_i32_1235 v1100
  v1101.toNat
def k0_dev27 (d0 : Dev nD) : Nat :=
  let c0_i32_1360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_1359 : BitVec 32 := 1#32
  let v1220 : BitVec 32 := Scalar.muli v73 c1_i32_1359
  let v1221 : BitVec 32 := Scalar.addi c0_i32_1360 v1220
  v1221.toNat
def k0_dev28 (d0 : Dev nD) : Nat :=
  let c0_i32_1407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1406 : BitVec 32 := 1#32
  let v1256 : BitVec 32 := Scalar.muli v114 c1_i32_1406
  let v1257 : BitVec 32 := Scalar.addi c0_i32_1407 v1256
  v1257.toNat
def k0_dev29 (d0 : Dev nD) : Nat :=
  let c0_i32_1454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_1453 : BitVec 32 := 1#32
  let v1292 : BitVec 32 := Scalar.muli v73 c1_i32_1453
  let v1293 : BitVec 32 := Scalar.addi c0_i32_1454 v1292
  v1293.toNat
def k0_dev30 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1500 : BitVec 32 := 1#32
  let v1328 : BitVec 32 := Scalar.muli v114 c1_i32_1500
  let v1329 : BitVec 32 := Scalar.addi c0_i32_1501 v1328
  v1329.toNat
def k0_dev31 (d0 : Dev nD) : Nat :=
  let c0_i32_1548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_1547 : BitVec 32 := 1#32
  let v1364 : BitVec 32 := Scalar.muli v73 c1_i32_1547
  let v1365 : BitVec 32 := Scalar.addi c0_i32_1548 v1364
  v1365.toNat
def k0_dev32 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1594 : BitVec 32 := 1#32
  let v1400 : BitVec 32 := Scalar.muli v114 c1_i32_1594
  let v1401 : BitVec 32 := Scalar.addi c0_i32_1595 v1400
  v1401.toNat
def k0_dev33 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_1641 : BitVec 32 := 1#32
  let v1436 : BitVec 32 := Scalar.muli v73 c1_i32_1641
  let v1437 : BitVec 32 := Scalar.addi c0_i32_1642 v1436
  v1437.toNat
def k0_dev34 (d0 : Dev nD) : Nat :=
  let c0_i32_1689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1688 : BitVec 32 := 1#32
  let v1472 : BitVec 32 := Scalar.muli v114 c1_i32_1688
  let v1473 : BitVec 32 := Scalar.addi c0_i32_1689 v1472
  v1473.toNat
def k0_dev35 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_1813 : BitVec 32 := 1#32
  let v1592 : BitVec 32 := Scalar.muli v73 c1_i32_1813
  let v1593 : BitVec 32 := Scalar.addi c0_i32_1814 v1592
  v1593.toNat
def k0_dev36 (d0 : Dev nD) : Nat :=
  let c0_i32_1861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1860 : BitVec 32 := 1#32
  let v1628 : BitVec 32 := Scalar.muli v114 c1_i32_1860
  let v1629 : BitVec 32 := Scalar.addi c0_i32_1861 v1628
  v1629.toNat
def k0_dev37 (d0 : Dev nD) : Nat :=
  let c0_i32_1908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_1907 : BitVec 32 := 1#32
  let v1664 : BitVec 32 := Scalar.muli v73 c1_i32_1907
  let v1665 : BitVec 32 := Scalar.addi c0_i32_1908 v1664
  v1665.toNat
def k0_dev38 (d0 : Dev nD) : Nat :=
  let c0_i32_1955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_1954 : BitVec 32 := 1#32
  let v1700 : BitVec 32 := Scalar.muli v114 c1_i32_1954
  let v1701 : BitVec 32 := Scalar.addi c0_i32_1955 v1700
  v1701.toNat
def k0_dev39 (d0 : Dev nD) : Nat :=
  let c0_i32_2002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2001 : BitVec 32 := 1#32
  let v1736 : BitVec 32 := Scalar.muli v73 c1_i32_2001
  let v1737 : BitVec 32 := Scalar.addi c0_i32_2002 v1736
  v1737.toNat
def k0_dev40 (d0 : Dev nD) : Nat :=
  let c0_i32_2049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2048 : BitVec 32 := 1#32
  let v1772 : BitVec 32 := Scalar.muli v114 c1_i32_2048
  let v1773 : BitVec 32 := Scalar.addi c0_i32_2049 v1772
  v1773.toNat
def k0_dev41 (d0 : Dev nD) : Nat :=
  let c0_i32_2096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2095 : BitVec 32 := 1#32
  let v1808 : BitVec 32 := Scalar.muli v73 c1_i32_2095
  let v1809 : BitVec 32 := Scalar.addi c0_i32_2096 v1808
  v1809.toNat
def k0_dev42 (d0 : Dev nD) : Nat :=
  let c0_i32_2143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2142 : BitVec 32 := 1#32
  let v1844 : BitVec 32 := Scalar.muli v114 c1_i32_2142
  let v1845 : BitVec 32 := Scalar.addi c0_i32_2143 v1844
  v1845.toNat
def k0_dev43 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2266 : BitVec 32 := 1#32
  let v1964 : BitVec 32 := Scalar.muli v73 c1_i32_2266
  let v1965 : BitVec 32 := Scalar.addi c0_i32_2267 v1964
  v1965.toNat
def k0_dev44 (d0 : Dev nD) : Nat :=
  let c0_i32_2314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2313 : BitVec 32 := 1#32
  let v2000 : BitVec 32 := Scalar.muli v114 c1_i32_2313
  let v2001 : BitVec 32 := Scalar.addi c0_i32_2314 v2000
  v2001.toNat
def k0_dev45 (d0 : Dev nD) : Nat :=
  let c0_i32_2361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2360 : BitVec 32 := 1#32
  let v2036 : BitVec 32 := Scalar.muli v73 c1_i32_2360
  let v2037 : BitVec 32 := Scalar.addi c0_i32_2361 v2036
  v2037.toNat
def k0_dev46 (d0 : Dev nD) : Nat :=
  let c0_i32_2408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2407 : BitVec 32 := 1#32
  let v2072 : BitVec 32 := Scalar.muli v114 c1_i32_2407
  let v2073 : BitVec 32 := Scalar.addi c0_i32_2408 v2072
  v2073.toNat
def k0_dev47 (d0 : Dev nD) : Nat :=
  let c0_i32_2455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2454 : BitVec 32 := 1#32
  let v2108 : BitVec 32 := Scalar.muli v73 c1_i32_2454
  let v2109 : BitVec 32 := Scalar.addi c0_i32_2455 v2108
  v2109.toNat
def k0_dev48 (d0 : Dev nD) : Nat :=
  let c0_i32_2502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2501 : BitVec 32 := 1#32
  let v2144 : BitVec 32 := Scalar.muli v114 c1_i32_2501
  let v2145 : BitVec 32 := Scalar.addi c0_i32_2502 v2144
  v2145.toNat
def k0_dev49 (d0 : Dev nD) : Nat :=
  let c0_i32_2549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2548 : BitVec 32 := 1#32
  let v2180 : BitVec 32 := Scalar.muli v73 c1_i32_2548
  let v2181 : BitVec 32 := Scalar.addi c0_i32_2549 v2180
  v2181.toNat
def k0_dev50 (d0 : Dev nD) : Nat :=
  let c0_i32_2596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2595 : BitVec 32 := 1#32
  let v2216 : BitVec 32 := Scalar.muli v114 c1_i32_2595
  let v2217 : BitVec 32 := Scalar.addi c0_i32_2596 v2216
  v2217.toNat
def k0_dev51 (d0 : Dev nD) : Nat :=
  let c0_i32_2720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2719 : BitVec 32 := 1#32
  let v2336 : BitVec 32 := Scalar.muli v73 c1_i32_2719
  let v2337 : BitVec 32 := Scalar.addi c0_i32_2720 v2336
  v2337.toNat
def k0_dev52 (d0 : Dev nD) : Nat :=
  let c0_i32_2767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2766 : BitVec 32 := 1#32
  let v2372 : BitVec 32 := Scalar.muli v114 c1_i32_2766
  let v2373 : BitVec 32 := Scalar.addi c0_i32_2767 v2372
  v2373.toNat
def k0_dev53 (d0 : Dev nD) : Nat :=
  let c0_i32_2814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2813 : BitVec 32 := 1#32
  let v2408 : BitVec 32 := Scalar.muli v73 c1_i32_2813
  let v2409 : BitVec 32 := Scalar.addi c0_i32_2814 v2408
  v2409.toNat
def k0_dev54 (d0 : Dev nD) : Nat :=
  let c0_i32_2861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2860 : BitVec 32 := 1#32
  let v2444 : BitVec 32 := Scalar.muli v114 c1_i32_2860
  let v2445 : BitVec 32 := Scalar.addi c0_i32_2861 v2444
  v2445.toNat
def k0_dev55 (d0 : Dev nD) : Nat :=
  let c0_i32_2908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_2907 : BitVec 32 := 1#32
  let v2480 : BitVec 32 := Scalar.muli v73 c1_i32_2907
  let v2481 : BitVec 32 := Scalar.addi c0_i32_2908 v2480
  v2481.toNat
def k0_dev56 (d0 : Dev nD) : Nat :=
  let c0_i32_2955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_2954 : BitVec 32 := 1#32
  let v2516 : BitVec 32 := Scalar.muli v114 c1_i32_2954
  let v2517 : BitVec 32 := Scalar.addi c0_i32_2955 v2516
  v2517.toNat
def k0_dev57 (d0 : Dev nD) : Nat :=
  let c0_i32_3002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3001 : BitVec 32 := 1#32
  let v2552 : BitVec 32 := Scalar.muli v73 c1_i32_3001
  let v2553 : BitVec 32 := Scalar.addi c0_i32_3002 v2552
  v2553.toNat
def k0_dev58 (d0 : Dev nD) : Nat :=
  let c0_i32_3049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3048 : BitVec 32 := 1#32
  let v2588 : BitVec 32 := Scalar.muli v114 c1_i32_3048
  let v2589 : BitVec 32 := Scalar.addi c0_i32_3049 v2588
  v2589.toNat
def k0_dev59 (d0 : Dev nD) : Nat :=
  let c0_i32_3173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3172 : BitVec 32 := 1#32
  let v2708 : BitVec 32 := Scalar.muli v73 c1_i32_3172
  let v2709 : BitVec 32 := Scalar.addi c0_i32_3173 v2708
  v2709.toNat
def k0_dev60 (d0 : Dev nD) : Nat :=
  let c0_i32_3220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3219 : BitVec 32 := 1#32
  let v2744 : BitVec 32 := Scalar.muli v114 c1_i32_3219
  let v2745 : BitVec 32 := Scalar.addi c0_i32_3220 v2744
  v2745.toNat
def k0_dev61 (d0 : Dev nD) : Nat :=
  let c0_i32_3267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3266 : BitVec 32 := 1#32
  let v2780 : BitVec 32 := Scalar.muli v73 c1_i32_3266
  let v2781 : BitVec 32 := Scalar.addi c0_i32_3267 v2780
  v2781.toNat
def k0_dev62 (d0 : Dev nD) : Nat :=
  let c0_i32_3314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3313 : BitVec 32 := 1#32
  let v2816 : BitVec 32 := Scalar.muli v114 c1_i32_3313
  let v2817 : BitVec 32 := Scalar.addi c0_i32_3314 v2816
  v2817.toNat
def k0_dev63 (d0 : Dev nD) : Nat :=
  let c0_i32_3361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3360 : BitVec 32 := 1#32
  let v2852 : BitVec 32 := Scalar.muli v73 c1_i32_3360
  let v2853 : BitVec 32 := Scalar.addi c0_i32_3361 v2852
  v2853.toNat
def k0_dev64 (d0 : Dev nD) : Nat :=
  let c0_i32_3408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3407 : BitVec 32 := 1#32
  let v2888 : BitVec 32 := Scalar.muli v114 c1_i32_3407
  let v2889 : BitVec 32 := Scalar.addi c0_i32_3408 v2888
  v2889.toNat
def k0_dev65 (d0 : Dev nD) : Nat :=
  let c0_i32_3455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3454 : BitVec 32 := 1#32
  let v2924 : BitVec 32 := Scalar.muli v73 c1_i32_3454
  let v2925 : BitVec 32 := Scalar.addi c0_i32_3455 v2924
  v2925.toNat
def k0_dev66 (d0 : Dev nD) : Nat :=
  let c0_i32_3502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3501 : BitVec 32 := 1#32
  let v2960 : BitVec 32 := Scalar.muli v114 c1_i32_3501
  let v2961 : BitVec 32 := Scalar.addi c0_i32_3502 v2960
  v2961.toNat
def k0_dev67 (d0 : Dev nD) : Nat :=
  let c0_i32_3626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3625 : BitVec 32 := 1#32
  let v3080 : BitVec 32 := Scalar.muli v73 c1_i32_3625
  let v3081 : BitVec 32 := Scalar.addi c0_i32_3626 v3080
  v3081.toNat
def k0_dev68 (d0 : Dev nD) : Nat :=
  let c0_i32_3673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3672 : BitVec 32 := 1#32
  let v3116 : BitVec 32 := Scalar.muli v114 c1_i32_3672
  let v3117 : BitVec 32 := Scalar.addi c0_i32_3673 v3116
  v3117.toNat
def k0_dev69 (d0 : Dev nD) : Nat :=
  let c0_i32_3720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3719 : BitVec 32 := 1#32
  let v3152 : BitVec 32 := Scalar.muli v73 c1_i32_3719
  let v3153 : BitVec 32 := Scalar.addi c0_i32_3720 v3152
  v3153.toNat
def k0_dev70 (d0 : Dev nD) : Nat :=
  let c0_i32_3767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3766 : BitVec 32 := 1#32
  let v3188 : BitVec 32 := Scalar.muli v114 c1_i32_3766
  let v3189 : BitVec 32 := Scalar.addi c0_i32_3767 v3188
  v3189.toNat
def k0_dev71 (d0 : Dev nD) : Nat :=
  let c0_i32_3814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3813 : BitVec 32 := 1#32
  let v3224 : BitVec 32 := Scalar.muli v73 c1_i32_3813
  let v3225 : BitVec 32 := Scalar.addi c0_i32_3814 v3224
  v3225.toNat
def k0_dev72 (d0 : Dev nD) : Nat :=
  let c0_i32_3861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3860 : BitVec 32 := 1#32
  let v3260 : BitVec 32 := Scalar.muli v114 c1_i32_3860
  let v3261 : BitVec 32 := Scalar.addi c0_i32_3861 v3260
  v3261.toNat
def k0_dev73 (d0 : Dev nD) : Nat :=
  let c0_i32_3908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_3907 : BitVec 32 := 1#32
  let v3296 : BitVec 32 := Scalar.muli v73 c1_i32_3907
  let v3297 : BitVec 32 := Scalar.addi c0_i32_3908 v3296
  v3297.toNat
def k0_dev74 (d0 : Dev nD) : Nat :=
  let c0_i32_3955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_3954 : BitVec 32 := 1#32
  let v3332 : BitVec 32 := Scalar.muli v114 c1_i32_3954
  let v3333 : BitVec 32 := Scalar.addi c0_i32_3955 v3332
  v3333.toNat
def k0_dev75 (d0 : Dev nD) : Nat :=
  let c0_i32_4079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4078 : BitVec 32 := 1#32
  let v3452 : BitVec 32 := Scalar.muli v73 c1_i32_4078
  let v3453 : BitVec 32 := Scalar.addi c0_i32_4079 v3452
  v3453.toNat
def k0_dev76 (d0 : Dev nD) : Nat :=
  let c0_i32_4126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_4125 : BitVec 32 := 1#32
  let v3488 : BitVec 32 := Scalar.muli v114 c1_i32_4125
  let v3489 : BitVec 32 := Scalar.addi c0_i32_4126 v3488
  v3489.toNat
def k0_dev77 (d0 : Dev nD) : Nat :=
  let c0_i32_4173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4172 : BitVec 32 := 1#32
  let v3524 : BitVec 32 := Scalar.muli v73 c1_i32_4172
  let v3525 : BitVec 32 := Scalar.addi c0_i32_4173 v3524
  v3525.toNat
def k0_dev78 (d0 : Dev nD) : Nat :=
  let c0_i32_4220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_4219 : BitVec 32 := 1#32
  let v3560 : BitVec 32 := Scalar.muli v114 c1_i32_4219
  let v3561 : BitVec 32 := Scalar.addi c0_i32_4220 v3560
  v3561.toNat
def k0_dev79 (d0 : Dev nD) : Nat :=
  let c0_i32_4267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4266 : BitVec 32 := 1#32
  let v3596 : BitVec 32 := Scalar.muli v73 c1_i32_4266
  let v3597 : BitVec 32 := Scalar.addi c0_i32_4267 v3596
  v3597.toNat
def k0_dev80 (d0 : Dev nD) : Nat :=
  let c0_i32_4314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_4313 : BitVec 32 := 1#32
  let v3632 : BitVec 32 := Scalar.muli v114 c1_i32_4313
  let v3633 : BitVec 32 := Scalar.addi c0_i32_4314 v3632
  v3633.toNat
def k0_dev81 (d0 : Dev nD) : Nat :=
  let c0_i32_4361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4360 : BitVec 32 := 1#32
  let v3668 : BitVec 32 := Scalar.muli v73 c1_i32_4360
  let v3669 : BitVec 32 := Scalar.addi c0_i32_4361 v3668
  v3669.toNat
def k0_dev82 (d0 : Dev nD) : Nat :=
  let c0_i32_4408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_4407 : BitVec 32 := 1#32
  let v3704 : BitVec 32 := Scalar.muli v114 c1_i32_4407
  let v3705 : BitVec 32 := Scalar.addi c0_i32_4408 v3704
  v3705.toNat
def k0_dev83 (d0 : Dev nD) : Nat :=
  let c0_i32_4532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4531 : BitVec 32 := 1#32
  let v3824 : BitVec 32 := Scalar.muli v73 c1_i32_4531
  let v3825 : BitVec 32 := Scalar.addi c0_i32_4532 v3824
  v3825.toNat
def k0_dev84 (d0 : Dev nD) : Nat :=
  let c0_i32_4579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_4578 : BitVec 32 := 1#32
  let v3860 : BitVec 32 := Scalar.muli v114 c1_i32_4578
  let v3861 : BitVec 32 := Scalar.addi c0_i32_4579 v3860
  v3861.toNat
def k0_dev85 (d0 : Dev nD) : Nat :=
  let c0_i32_4626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4625 : BitVec 32 := 1#32
  let v3896 : BitVec 32 := Scalar.muli v73 c1_i32_4625
  let v3897 : BitVec 32 := Scalar.addi c0_i32_4626 v3896
  v3897.toNat
def k0_dev86 (d0 : Dev nD) : Nat :=
  let c0_i32_4673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_4672 : BitVec 32 := 1#32
  let v3932 : BitVec 32 := Scalar.muli v114 c1_i32_4672
  let v3933 : BitVec 32 := Scalar.addi c0_i32_4673 v3932
  v3933.toNat
def k0_dev87 (d0 : Dev nD) : Nat :=
  let c0_i32_4720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4719 : BitVec 32 := 1#32
  let v3968 : BitVec 32 := Scalar.muli v73 c1_i32_4719
  let v3969 : BitVec 32 := Scalar.addi c0_i32_4720 v3968
  v3969.toNat
def k0_dev88 (d0 : Dev nD) : Nat :=
  let c0_i32_4767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_4766 : BitVec 32 := 1#32
  let v4004 : BitVec 32 := Scalar.muli v114 c1_i32_4766
  let v4005 : BitVec 32 := Scalar.addi c0_i32_4767 v4004
  v4005.toNat
def k0_dev89 (d0 : Dev nD) : Nat :=
  let c0_i32_4814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4813 : BitVec 32 := 1#32
  let v4040 : BitVec 32 := Scalar.muli v73 c1_i32_4813
  let v4041 : BitVec 32 := Scalar.addi c0_i32_4814 v4040
  v4041.toNat
def k0_dev90 (d0 : Dev nD) : Nat :=
  let c0_i32_4861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_4860 : BitVec 32 := 1#32
  let v4076 : BitVec 32 := Scalar.muli v114 c1_i32_4860
  let v4077 : BitVec 32 := Scalar.addi c0_i32_4861 v4076
  v4077.toNat
def k0_dev91 (d0 : Dev nD) : Nat :=
  let c0_i32_4985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_4984 : BitVec 32 := 1#32
  let v4196 : BitVec 32 := Scalar.muli v73 c1_i32_4984
  let v4197 : BitVec 32 := Scalar.addi c0_i32_4985 v4196
  v4197.toNat
def k0_dev92 (d0 : Dev nD) : Nat :=
  let c0_i32_5032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5031 : BitVec 32 := 1#32
  let v4232 : BitVec 32 := Scalar.muli v114 c1_i32_5031
  let v4233 : BitVec 32 := Scalar.addi c0_i32_5032 v4232
  v4233.toNat
def k0_dev93 (d0 : Dev nD) : Nat :=
  let c0_i32_5079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5078 : BitVec 32 := 1#32
  let v4268 : BitVec 32 := Scalar.muli v73 c1_i32_5078
  let v4269 : BitVec 32 := Scalar.addi c0_i32_5079 v4268
  v4269.toNat
def k0_dev94 (d0 : Dev nD) : Nat :=
  let c0_i32_5126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5125 : BitVec 32 := 1#32
  let v4304 : BitVec 32 := Scalar.muli v114 c1_i32_5125
  let v4305 : BitVec 32 := Scalar.addi c0_i32_5126 v4304
  v4305.toNat
def k0_dev95 (d0 : Dev nD) : Nat :=
  let c0_i32_5173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5172 : BitVec 32 := 1#32
  let v4340 : BitVec 32 := Scalar.muli v73 c1_i32_5172
  let v4341 : BitVec 32 := Scalar.addi c0_i32_5173 v4340
  v4341.toNat
def k0_dev96 (d0 : Dev nD) : Nat :=
  let c0_i32_5220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5219 : BitVec 32 := 1#32
  let v4376 : BitVec 32 := Scalar.muli v114 c1_i32_5219
  let v4377 : BitVec 32 := Scalar.addi c0_i32_5220 v4376
  v4377.toNat
def k0_dev97 (d0 : Dev nD) : Nat :=
  let c0_i32_5267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5266 : BitVec 32 := 1#32
  let v4412 : BitVec 32 := Scalar.muli v73 c1_i32_5266
  let v4413 : BitVec 32 := Scalar.addi c0_i32_5267 v4412
  v4413.toNat
def k0_dev98 (d0 : Dev nD) : Nat :=
  let c0_i32_5314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5313 : BitVec 32 := 1#32
  let v4448 : BitVec 32 := Scalar.muli v114 c1_i32_5313
  let v4449 : BitVec 32 := Scalar.addi c0_i32_5314 v4448
  v4449.toNat
def k0_dev99 (d0 : Dev nD) : Nat :=
  let c0_i32_5438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5437 : BitVec 32 := 1#32
  let v4568 : BitVec 32 := Scalar.muli v73 c1_i32_5437
  let v4569 : BitVec 32 := Scalar.addi c0_i32_5438 v4568
  v4569.toNat
def k0_dev100 (d0 : Dev nD) : Nat :=
  let c0_i32_5485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5484 : BitVec 32 := 1#32
  let v4604 : BitVec 32 := Scalar.muli v114 c1_i32_5484
  let v4605 : BitVec 32 := Scalar.addi c0_i32_5485 v4604
  v4605.toNat
def k0_dev101 (d0 : Dev nD) : Nat :=
  let c0_i32_5532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5531 : BitVec 32 := 1#32
  let v4640 : BitVec 32 := Scalar.muli v73 c1_i32_5531
  let v4641 : BitVec 32 := Scalar.addi c0_i32_5532 v4640
  v4641.toNat
def k0_dev102 (d0 : Dev nD) : Nat :=
  let c0_i32_5579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5578 : BitVec 32 := 1#32
  let v4676 : BitVec 32 := Scalar.muli v114 c1_i32_5578
  let v4677 : BitVec 32 := Scalar.addi c0_i32_5579 v4676
  v4677.toNat
def k0_dev103 (d0 : Dev nD) : Nat :=
  let c0_i32_5626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5625 : BitVec 32 := 1#32
  let v4712 : BitVec 32 := Scalar.muli v73 c1_i32_5625
  let v4713 : BitVec 32 := Scalar.addi c0_i32_5626 v4712
  v4713.toNat
def k0_dev104 (d0 : Dev nD) : Nat :=
  let c0_i32_5673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5672 : BitVec 32 := 1#32
  let v4748 : BitVec 32 := Scalar.muli v114 c1_i32_5672
  let v4749 : BitVec 32 := Scalar.addi c0_i32_5673 v4748
  v4749.toNat
def k0_dev105 (d0 : Dev nD) : Nat :=
  let c0_i32_5720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5719 : BitVec 32 := 1#32
  let v4784 : BitVec 32 := Scalar.muli v73 c1_i32_5719
  let v4785 : BitVec 32 := Scalar.addi c0_i32_5720 v4784
  v4785.toNat
def k0_dev106 (d0 : Dev nD) : Nat :=
  let c0_i32_5767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5766 : BitVec 32 := 1#32
  let v4820 : BitVec 32 := Scalar.muli v114 c1_i32_5766
  let v4821 : BitVec 32 := Scalar.addi c0_i32_5767 v4820
  v4821.toNat
def k0_dev107 (d0 : Dev nD) : Nat :=
  let c0_i32_5891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5890 : BitVec 32 := 1#32
  let v4940 : BitVec 32 := Scalar.muli v73 c1_i32_5890
  let v4941 : BitVec 32 := Scalar.addi c0_i32_5891 v4940
  v4941.toNat
def k0_dev108 (d0 : Dev nD) : Nat :=
  let c0_i32_5938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_5937 : BitVec 32 := 1#32
  let v4976 : BitVec 32 := Scalar.muli v114 c1_i32_5937
  let v4977 : BitVec 32 := Scalar.addi c0_i32_5938 v4976
  v4977.toNat
def k0_dev109 (d0 : Dev nD) : Nat :=
  let c0_i32_5985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_5984 : BitVec 32 := 1#32
  let v5012 : BitVec 32 := Scalar.muli v73 c1_i32_5984
  let v5013 : BitVec 32 := Scalar.addi c0_i32_5985 v5012
  v5013.toNat
def k0_dev110 (d0 : Dev nD) : Nat :=
  let c0_i32_6032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_6031 : BitVec 32 := 1#32
  let v5048 : BitVec 32 := Scalar.muli v114 c1_i32_6031
  let v5049 : BitVec 32 := Scalar.addi c0_i32_6032 v5048
  v5049.toNat
def k0_dev111 (d0 : Dev nD) : Nat :=
  let c0_i32_6079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_6078 : BitVec 32 := 1#32
  let v5084 : BitVec 32 := Scalar.muli v73 c1_i32_6078
  let v5085 : BitVec 32 := Scalar.addi c0_i32_6079 v5084
  v5085.toNat
def k0_dev112 (d0 : Dev nD) : Nat :=
  let c0_i32_6126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_6125 : BitVec 32 := 1#32
  let v5120 : BitVec 32 := Scalar.muli v114 c1_i32_6125
  let v5121 : BitVec 32 := Scalar.addi c0_i32_6126 v5120
  v5121.toNat
def k0_dev113 (d0 : Dev nD) : Nat :=
  let c0_i32_6173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_6172 : BitVec 32 := 1#32
  let v5156 : BitVec 32 := Scalar.muli v73 c1_i32_6172
  let v5157 : BitVec 32 := Scalar.addi c0_i32_6173 v5156
  v5157.toNat
def k0_dev114 (d0 : Dev nD) : Nat :=
  let c0_i32_6220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_6219 : BitVec 32 := 1#32
  let v5192 : BitVec 32 := Scalar.muli v114 c1_i32_6219
  let v5193 : BitVec 32 := Scalar.addi c0_i32_6220 v5192
  v5193.toNat
def k0_dev115 (d0 : Dev nD) : Nat :=
  let c0_i32_6344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_6343 : BitVec 32 := 1#32
  let v5312 : BitVec 32 := Scalar.muli v73 c1_i32_6343
  let v5313 : BitVec 32 := Scalar.addi c0_i32_6344 v5312
  v5313.toNat
def k0_dev116 (d0 : Dev nD) : Nat :=
  let c0_i32_6391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_6390 : BitVec 32 := 1#32
  let v5348 : BitVec 32 := Scalar.muli v114 c1_i32_6390
  let v5349 : BitVec 32 := Scalar.addi c0_i32_6391 v5348
  v5349.toNat
def k0_dev117 (d0 : Dev nD) : Nat :=
  let c0_i32_6438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_6437 : BitVec 32 := 1#32
  let v5384 : BitVec 32 := Scalar.muli v73 c1_i32_6437
  let v5385 : BitVec 32 := Scalar.addi c0_i32_6438 v5384
  v5385.toNat
def k0_dev118 (d0 : Dev nD) : Nat :=
  let c0_i32_6485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_6484 : BitVec 32 := 1#32
  let v5420 : BitVec 32 := Scalar.muli v114 c1_i32_6484
  let v5421 : BitVec 32 := Scalar.addi c0_i32_6485 v5420
  v5421.toNat
def k0_dev119 (d0 : Dev nD) : Nat :=
  let c0_i32_6532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_6531 : BitVec 32 := 1#32
  let v5456 : BitVec 32 := Scalar.muli v73 c1_i32_6531
  let v5457 : BitVec 32 := Scalar.addi c0_i32_6532 v5456
  v5457.toNat
def k0_dev120 (d0 : Dev nD) : Nat :=
  let c0_i32_6579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_6578 : BitVec 32 := 1#32
  let v5492 : BitVec 32 := Scalar.muli v114 c1_i32_6578
  let v5493 : BitVec 32 := Scalar.addi c0_i32_6579 v5492
  v5493.toNat
def k0_dev121 (d0 : Dev nD) : Nat :=
  let c0_i32_6626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c3_i32_53 : BitVec 32 := 3#32
  let c14_i32_50 : BitVec 32 := 14#32
  let v70 : BitVec 1 := Scalar.cmpi .eq v43 c14_i32_50
  let c7_i32_51 : BitVec 32 := 7#32
  let c13_i32_48 : BitVec 32 := 13#32
  let v68 : BitVec 1 := Scalar.cmpi .eq v43 c13_i32_48
  let c11_i32_49 : BitVec 32 := 11#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c14_i32_45 : BitVec 32 := 14#32
  let c10_i32_42 : BitVec 32 := 10#32
  let v62 : BitVec 1 := Scalar.cmpi .eq v43 c10_i32_42
  let c10_i32_43 : BitVec 32 := 10#32
  let c9_i32_40 : BitVec 32 := 9#32
  let v60 : BitVec 1 := Scalar.cmpi .eq v43 c9_i32_40
  let c6_i32_41 : BitVec 32 := 6#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c1_i32_37 : BitVec 32 := 1#32
  let c6_i32_34 : BitVec 32 := 6#32
  let v54 : BitVec 1 := Scalar.cmpi .eq v43 c6_i32_34
  let c5_i32_35 : BitVec 32 := 5#32
  let c5_i32_32 : BitVec 32 := 5#32
  let v52 : BitVec 1 := Scalar.cmpi .eq v43 c5_i32_32
  let c9_i32_33 : BitVec 32 := 9#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c12_i32_29 : BitVec 32 := 12#32
  let c2_i32_26 : BitVec 32 := 2#32
  let v46 : BitVec 1 := Scalar.cmpi .eq v43 c2_i32_26
  let c8_i32_27 : BitVec 32 := 8#32
  let c1_i32_23 : BitVec 32 := 1#32
  let v44 : BitVec 1 := Scalar.cmpi .eq v43 c1_i32_23
  let c4_i32_24 : BitVec 32 := 4#32
  let c0_i32_25 : BitVec 32 := 0#32
  let v45 : BitVec 32 := Scalar.select v44 c4_i32_24 c0_i32_25
  let v47 : BitVec 32 := Scalar.select v46 c8_i32_27 v45
  let v49 : BitVec 32 := Scalar.select v48 c12_i32_29 v47
  let v51 : BitVec 32 := Scalar.select v50 c13_i32_31 v49
  let v53 : BitVec 32 := Scalar.select v52 c9_i32_33 v51
  let v55 : BitVec 32 := Scalar.select v54 c5_i32_35 v53
  let v57 : BitVec 32 := Scalar.select v56 c1_i32_37 v55
  let v59 : BitVec 32 := Scalar.select v58 c2_i32_39 v57
  let v61 : BitVec 32 := Scalar.select v60 c6_i32_41 v59
  let v63 : BitVec 32 := Scalar.select v62 c10_i32_43 v61
  let v65 : BitVec 32 := Scalar.select v64 c14_i32_45 v63
  let v67 : BitVec 32 := Scalar.select v66 c15_i32_47 v65
  let v69 : BitVec 32 := Scalar.select v68 c11_i32_49 v67
  let v71 : BitVec 32 := Scalar.select v70 c7_i32_51 v69
  let v73 : BitVec 32 := Scalar.select v72 c3_i32_53 v71
  let c1_i32_6625 : BitVec 32 := 1#32
  let v5528 : BitVec 32 := Scalar.muli v73 c1_i32_6625
  let v5529 : BitVec 32 := Scalar.addi c0_i32_6626 v5528
  v5529.toNat
def k0_dev122 (d0 : Dev nD) : Nat :=
  let c0_i32_6673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c3_i32_91 : BitVec 32 := 3#32
  let c14_i32_88 : BitVec 32 := 14#32
  let v111 : BitVec 1 := Scalar.cmpi .eq v84 c14_i32_88
  let c7_i32_89 : BitVec 32 := 7#32
  let c13_i32_86 : BitVec 32 := 13#32
  let v109 : BitVec 1 := Scalar.cmpi .eq v84 c13_i32_86
  let c11_i32_87 : BitVec 32 := 11#32
  let c12_i32_84 : BitVec 32 := 12#32
  let v107 : BitVec 1 := Scalar.cmpi .eq v84 c12_i32_84
  let c15_i32_85 : BitVec 32 := 15#32
  let c11_i32_82 : BitVec 32 := 11#32
  let v105 : BitVec 1 := Scalar.cmpi .eq v84 c11_i32_82
  let c14_i32_83 : BitVec 32 := 14#32
  let c10_i32_80 : BitVec 32 := 10#32
  let v103 : BitVec 1 := Scalar.cmpi .eq v84 c10_i32_80
  let c10_i32_81 : BitVec 32 := 10#32
  let c9_i32_78 : BitVec 32 := 9#32
  let v101 : BitVec 1 := Scalar.cmpi .eq v84 c9_i32_78
  let c6_i32_79 : BitVec 32 := 6#32
  let c8_i32_76 : BitVec 32 := 8#32
  let v99 : BitVec 1 := Scalar.cmpi .eq v84 c8_i32_76
  let c2_i32_77 : BitVec 32 := 2#32
  let c7_i32_74 : BitVec 32 := 7#32
  let v97 : BitVec 1 := Scalar.cmpi .eq v84 c7_i32_74
  let c1_i32_75 : BitVec 32 := 1#32
  let c6_i32_72 : BitVec 32 := 6#32
  let v95 : BitVec 1 := Scalar.cmpi .eq v84 c6_i32_72
  let c5_i32_73 : BitVec 32 := 5#32
  let c5_i32_70 : BitVec 32 := 5#32
  let v93 : BitVec 1 := Scalar.cmpi .eq v84 c5_i32_70
  let c9_i32_71 : BitVec 32 := 9#32
  let c4_i32_68 : BitVec 32 := 4#32
  let v91 : BitVec 1 := Scalar.cmpi .eq v84 c4_i32_68
  let c13_i32_69 : BitVec 32 := 13#32
  let c3_i32_66 : BitVec 32 := 3#32
  let v89 : BitVec 1 := Scalar.cmpi .eq v84 c3_i32_66
  let c12_i32_67 : BitVec 32 := 12#32
  let c2_i32_64 : BitVec 32 := 2#32
  let v87 : BitVec 1 := Scalar.cmpi .eq v84 c2_i32_64
  let c8_i32_65 : BitVec 32 := 8#32
  let c1_i32_61 : BitVec 32 := 1#32
  let v85 : BitVec 1 := Scalar.cmpi .eq v84 c1_i32_61
  let c4_i32_62 : BitVec 32 := 4#32
  let c0_i32_63 : BitVec 32 := 0#32
  let v86 : BitVec 32 := Scalar.select v85 c4_i32_62 c0_i32_63
  let v88 : BitVec 32 := Scalar.select v87 c8_i32_65 v86
  let v90 : BitVec 32 := Scalar.select v89 c12_i32_67 v88
  let v92 : BitVec 32 := Scalar.select v91 c13_i32_69 v90
  let v94 : BitVec 32 := Scalar.select v93 c9_i32_71 v92
  let v96 : BitVec 32 := Scalar.select v95 c5_i32_73 v94
  let v98 : BitVec 32 := Scalar.select v97 c1_i32_75 v96
  let v100 : BitVec 32 := Scalar.select v99 c2_i32_77 v98
  let v102 : BitVec 32 := Scalar.select v101 c6_i32_79 v100
  let v104 : BitVec 32 := Scalar.select v103 c10_i32_81 v102
  let v106 : BitVec 32 := Scalar.select v105 c14_i32_83 v104
  let v108 : BitVec 32 := Scalar.select v107 c15_i32_85 v106
  let v110 : BitVec 32 := Scalar.select v109 c11_i32_87 v108
  let v112 : BitVec 32 := Scalar.select v111 c7_i32_89 v110
  let v114 : BitVec 32 := Scalar.select v113 c3_i32_91 v112
  let c1_i32_6672 : BitVec 32 := 1#32
  let v5564 : BitVec 32 := Scalar.muli v114 c1_i32_6672
  let v5565 : BitVec 32 := Scalar.addi c0_i32_6673 v5564
  v5565.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_6678 : BitVec 32 := 128#32
  let v5574 : BitVec 32 := Scalar.muli v2 c128_i32_6678
  let v5575 : Index := Scalar.indexCast v5574
  let c0_6679 : Index := 0#32
  ![v5575.toNat, 0]
abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ring.Spec.lean ====
/-
  The kernel's body, written as what it is: a ring in each of two directions, fifteen steps long, four column pieces
  per direction and step. A HOP is one such piece (`hop0` at step 0, `hop` at the later ones): load a row block of `x`
  and a column block of `w`, multiply, (later steps: wait for the previous hop of the same piece, add what arrived),
  store the sum into the send buffer and copy it into the neighbour's landing slot. The last piece of work per
  direction and column (`fin`) adds the device's own product to what arrived last and stores the positive part of the
  sum in the result. `body_eq`: the printed body IS the prologue, the 120 hops and the eight last pieces in order.
-/
module

public import proofs.«01_k».proof.Proof.Gen.KernelIdeal

@[expose] public section

noncomputable section

namespace Cert.Proof

open Cert.KernelIdeal Cert.KernelIdeal.Gen

open Idealize.ShloMosaic Idealize.SL.Sem

variable {F : FTy → Type} [FloatOps F]

/-! ## The two directions (`false`: to the right, `true`: to the left) and their operands -/

/-- The send buffer of a direction. -/
def bufM : Bool → Memref sig .tc .vmem S4x128x256 .bf16
  | false => Memref.whole cc0_scratch2
  | true => Memref.whole cc0_scratch3

/-- The landing buffer of a direction. -/
def comM : Bool → Memref sig .tc .vmem S15x4x128x256 .bf16
  | false => Memref.whole cc0_scratch4
  | true => Memref.whole cc0_scratch5

/-- The send semaphores of a direction. -/
def sndS : Bool → DmaSems sig S4
  | false => cc0_scratch6
  | true => cc0_scratch7

/-- The receive semaphores of a direction. -/
def rcvS : Bool → DmaSems sig S15x4
  | false => cc0_scratch8
  | true => cc0_scratch9

theorem bufM_whole : ∀ d, (bufM d).IsWhole
  | false => Memref.isWhole_whole _
  | true => Memref.isWhole_whole _

theorem comM_whole : ∀ d, (comM d).IsWhole
  | false => Memref.isWhole_whole _
  | true => Memref.isWhole_whole _

/-- The copies of the two operands the body works on. -/
abbrev xbM : Memref sig .tc .vmem S2048x128 .bf16 := Memref.whole cc0_scratch0
abbrev wbM : Memref sig .tc .vmem S128x2048 .bf16 := Memref.whole cc0_scratch1

/-- The neighbour a direction's copies go to. -/
def nbr : Bool → Dev nD → Dev nD
  | false, c => ⟨k0_dev2 c, k0_dev2_lt c⟩
  | true, c => ⟨k0_dev1 c, k0_dev1_lt c⟩

/-- The first row of the row block of `x` a hop of step `s` reads. -/
def rowOff : Bool → Dev nD → Fin 15 → Fin 2 → ℕ
  | false, c, s => k0_off1 c (BitVec.ofNat 32 s.val)
  | true, c, s => k0_off2 c (BitVec.ofNat 32 s.val)

theorem rowOff_inb : ∀ (d : Bool) (c : Dev nD) (s : Fin 15) (a), rowOff d c s a + S128x128.size a ≤ S2048x128.size a
  | false, c, s => k0_off1_inb c s
  | true, c, s => k0_off2_inb c s

/-- The first column of piece `p` in direction `d`. -/
def col : Bool → Fin 4 → ℕ
  | false, p => 256 * p.val
  | true, p => 1024 + 256 * p.val

theorem col_inb : ∀ (d : Bool) (p : Fin 4) (a), (![0, col d p] : Fin 2 → ℕ) a + S128x256.size a ≤ S128x2048.size a := by
  decide

theorem buf_inb : ∀ (p : Fin 4) (a), (![p.val, 0, 0] : Fin 3 → ℕ) a + S1x128x256.size a ≤ S4x128x256.size a := by decide
theorem com_inb : ∀ (s : Fin 15) (p : Fin 4) (a), (![s.val, p.val, 0, 0] : Fin 4 → ℕ) a + S1x1x128x256.size a ≤ S15x4x128x256.size a := by
  decide
theorem snd_inb : ∀ (p : Fin 4) (a), (![p.val] : Fin 1 → ℕ) a + S1.size a ≤ S4.size a := by decide
theorem rcv_inb : ∀ (s : Fin 15) (p : Fin 4) (a), (![s.val, p.val] : Fin 2 → ℕ) a + S1x1.size a ≤ S15x4.size a := by decide

/-- The rectangle of piece `p` in a send buffer, of (step, piece) in a landing buffer, of a piece's columns in `w` and
    the result, of a step's row block in `x`. -/
abbrev bufRect (p : Fin 4) : Rect S4x128x256 := Rect.unit (s := S4x128x256) ![p.val, 0, 0] S1x128x256.size (buf_inb p)
abbrev comRect (s : Fin 15) (p : Fin 4) : Rect S15x4x128x256 :=
  Rect.unit (s := S15x4x128x256) ![s.val, p.val, 0, 0] S1x1x128x256.size (com_inb s p)
abbrev colRect (d : Bool) (p : Fin 4) : Rect S128x2048 := Rect.unit (s := S128x2048) ![0, col d p] S128x256.size (col_inb d p)
abbrev rowRect (d : Bool) (c : Dev nD) (s : Fin 15) : Rect S2048x128 :=
  Rect.unit (s := S2048x128) (rowOff d c s) S128x128.size (rowOff_inb d c s)
abbrev ownRect (c : Dev nD) : Rect S2048x128 := Rect.unit (s := S2048x128) (k0_off3 c) S128x128.size (k0_off3_inb c)

theorem buf_words : ∀ p : Fin 4, (bufRect p).WholeWords (EltTy.packing .bf16) := by decide
theorem buf_packed : ∀ p : Fin 4, (bufRect p).PackedRows (EltTy.packing .bf16) := by decide
theorem com_words : ∀ (s : Fin 15) (p : Fin 4), (comRect s p).WholeWords (EltTy.packing .bf16) := by decide

/-- Piece `p` of a send buffer, and slot (step, piece) of a landing buffer, as the copies take them. -/
abbrev bufV (d : Bool) (p : Fin 4) : Memref sig .tc .vmem S128x256 .bf16 :=
  ((bufM d).slice (bufRect p) (fun _ => rfl)).squeeze S128x256 squeezes_S1x128x256_S128x256
abbrev comV (d : Bool) (s : Fin 15) (p : Fin 4) : Memref sig .tc .vmem S128x256 .bf16 :=
  ((comM d).slice (comRect s p) (fun _ => rfl)).squeeze S128x256 squeezes_S1x1x128x256_S128x256

theorem buf_exact (d : Bool) (p : Fin 4) : (bufV d p).view.WordExact :=
  ((bufM_whole d).wordExact_slice rfl _ (buf_words p)).reshape _ _
theorem com_exact (d : Bool) (s : Fin 15) (p : Fin 4) : (comV d s p).view.WordExact :=
  ((comM_whole d).wordExact_slice rfl _ (com_words s p)).reshape _ _

/-- The semaphore of a piece's sends, and of the arrival at (step, piece). -/
abbrev sndSem (d : Bool) (p : Fin 4) : DmaSem sig :=
  (((sndS d).slice (Rect.unit (s := S4) ![p.val] S1.size (snd_inb p))).squeeze S_ squeezes_S1_S_).sem
abbrev rcvSem (d : Bool) (s : Fin 15) (p : Fin 4) : DmaSem sig :=
  (((rcvS d).slice (Rect.unit (s := S15x4) ![s.val, p.val] S1x1.size (rcv_inb s p))).squeeze S_ squeezes_S1x1_S_).sem

/-! ## The values -/

/-- A row block of `x` times a column block of `w`, in f32. -/
abbrev prod (a : Vec F S128x128 .bf16) (b : Vec F S128x256 .bf16) : FVec F S128x256 .f32 :=
  matmul dot_S128x128_S128x256_S128x256_1_0_0_1_n_n none a b (constant S128x256 .f32 0x00000000#32)

/-- The same rounded to bf16. -/
abbrev piece (a : Vec F S128x128 .bf16) (b : Vec F S128x256 .bf16) : FVec F S128x256 .bf16 := truncf .bf16 (prod a b) bitsLt_bf16_f32

/-- A slot's contents as a matrix. -/
abbrev flat (v : Vec F S1x1x128x256 .bf16) : FVec F S128x256 .bf16 := shapeCast S128x256 v shapeCasts_S1x1x128x256_S128x256

/-- What the last piece of work stores in the result. -/
abbrev last (a : Vec F S128x128 .bf16) (b : Vec F S128x256 .bf16) (v : Vec F S1x1x128x256 .bf16) : FVec F S128x256 .f32 :=
  maximumf (addf (prod a b) (extf .f32 (flat v) bitsLt_bf16_f32)) (broadcast S128x256 (Scalar.ofBits .f32 0x00000000#32))

/-! ## The program -/

/-- A program of the kernel's machine. -/
abbrev KP (F : FTy → Type) : Type → Type 1 := Prog (TpuEff nD τ sig (Elt F) Λ₀ .tc)

/-- Load a whole-unit rectangle of a buffer. -/
abbrev ld {s : Shape} {e : EltTy} (M : Memref sig .tc .vmem s e) (r : Rect s) (h : 0 < r.shape.numel) : KP F (Vec F r.shape e) :=
  Prog.lift (.load M r.toLoadRect (View.loadsAt_vmem h))

/-- The two waits of a finished copy of piece `p` that step `s` started: its read-out, then its arrival here. -/
def waits (d : Bool) (s : Fin 15) (p : Fin 4) : KP F PUnit := do
  Prog.lift (.waitDma2 (sndSem d p) (comV d s p) (bufV d p) (com_exact d s p) (buf_exact d p))
  Prog.lift (.waitDma2 (rcvSem d s p) (bufV d p) (comV d s p) (buf_exact d p) (com_exact d s p))

/-- Store a matrix as piece `p` of the send buffer and copy it into slot (step, piece) of the neighbour. -/
def send (d : Bool) (c : Dev nD) (s : Fin 15) (p : Fin 4) (v : FVec F S128x256 .bf16) : KP F PUnit := do
  let _ : Vec F S1x128x256 .bf16 ← ld (bufM d) (bufRect p) h_S1x128x256
  Prog.lift (.store (bufM d) (bufRect p) (shapeCast S1x128x256 v shapeCasts_S128x256_S1x128x256) Finset.univ
    (View.stores_vmem h_S1x128x256 ((bufM_whole d).storeExact_slice rfl _ (buf_packed p)) (fun _ => rfl)) (.inl rfl))
  Prog.lift (.enqueueDma (bufV d p) (.remote (Dev.tc (nbr d c)) (comV d s p) (.dma (sndSem d p))) (.dma (rcvSem d s p))
    (buf_exact d p) (com_exact d s p) ⟨⟨rfl, Or.inl rfl⟩, trivial⟩)

/-- A hop of step 0: the product alone. -/
def hop0 (c : Dev nD) (d : Bool) (p : Fin 4) : KP F PUnit := do
  let a ← ld xbM (rowRect d c 0) h_S128x128
  let b ← ld wbM (colRect d p) h_S128x256
  send d c 0 p (piece a b)

/-- A hop of step `s + 1`: the product plus what arrived at step `s`. -/
def hop (c : Dev nD) (s : Fin 14) (d : Bool) (p : Fin 4) : KP F PUnit := do
  let a ← ld xbM (rowRect d c s.succ) h_S128x128
  let b ← ld wbM (colRect d p) h_S128x256
  waits d s.castSucc p
  let v ← ld (comM d) (comRect s.castSucc p) h_S1x1x128x256
  send d c s.succ p (addf (piece a b) (flat v))

/-- The last piece of work of piece `p`. -/
def fin (o : Memref sig .tc .vmem S128x2048 .f32) (c : Dev nD) (d : Bool) (p : Fin 4) : KP F PUnit := do
  let a ← ld xbM (ownRect c) h_S128x128
  let b ← ld wbM (colRect d p) h_S128x256
  waits d 14 p
  let v ← ld (comM d) (comRect 14 p) h_S1x1x128x256
  let _ : Vec F S128x256 .f32 ← ld o (colRect d p) h_S128x256
  Prog.lift (.store o (colRect d p) (last a b v) Finset.univ (View.stores_vmem_bits_univ h_S128x256 rfl) (.inl rfl))

/-- The order of the eight pieces inside a step. -/
def keys : List (Bool × Fin 4) := [(false, 0), (true, 0), (false, 1), (true, 1), (false, 2), (true, 2), (false, 3), (true, 3)]

/-- Programs in order. -/
def seqs {α : Type} (f : α → KP F PUnit) : List α → KP F PUnit
  | [] => pure ⟨⟩
  | a :: l => do f a; seqs f l

/-- What comes before the ring: the two signals on the neighbours' barriers, the copies of the operands, the wait on
    the device's own barrier. -/
def prologue (x : Memref sig .tc .vmem S2048x128 .bf16) (w : Memref sig .tc .vmem S128x2048 .bf16) (c : Dev nD) : KP F PUnit := do
  semSignalWord (nbr true c) barrier0 1#32
  semSignalWord (nbr false c) barrier0 1#32
  let a : Vec F S2048x128 .bf16 ← ld x (Rect.unit (s := S2048x128) ![0, 0] S2048x128.size inb_S2048x128_S2048x128_0_0) h_S2048x128
  let _ : Vec F S2048x128 .bf16 ← ld xbM (Rect.unit (s := S2048x128) ![0, 0] S2048x128.size inb_S2048x128_S2048x128_0_0) h_S2048x128
  Prog.lift (.store xbM (Rect.unit (s := S2048x128) ![0, 0] S2048x128.size inb_S2048x128_S2048x128_0_0)
    (shapeCast S2048x128 (shapeCast S2048x128 a shapeCasts_S2048x128_S2048x128 : FVec F S2048x128 .bf16) shapeCasts_S2048x128_S2048x128) Finset.univ
    (View.stores_vmem h_S2048x128 ((Memref.isWhole_whole _).storeExact_slice rfl _ packedbf16_S2048x128_S2048x128_0_0) (fun _ => rfl)) (.inl rfl))
  let b : Vec F S128x2048 .bf16 ← ld w (Rect.unit (s := S128x2048) ![0, 0] S128x2048.size inb_S128x2048_S128x2048_0_0) h_S128x2048
  let _ : Vec F S128x2048 .bf16 ← ld wbM (Rect.unit (s := S128x2048) ![0, 0] S128x2048.size inb_S128x2048_S128x2048_0_0) h_S128x2048
  Prog.lift (.store wbM (Rect.unit (s := S128x2048) ![0, 0] S128x2048.size inb_S128x2048_S128x2048_0_0)
    (shapeCast S128x2048 (shapeCast S128x2048 b shapeCasts_S128x2048_S128x2048 : FVec F S128x2048 .bf16) shapeCasts_S128x2048_S128x2048) Finset.univ
    (View.stores_vmem h_S128x2048 ((Memref.isWhole_whole _).storeExact_slice rfl _ packedbf16_S128x2048_S128x2048_0_0) (fun _ => rfl)) (.inl rfl))
  semWaitWord barrier0 2#32

/-- The body's program. -/
def spec (x : Memref sig .tc .vmem S2048x128 .bf16) (w : Memref sig .tc .vmem S128x2048 .bf16)
    (o : Memref sig .tc .vmem S128x2048 .f32) : KP F PUnit := do
  let c ← Prog.lift .deviceId
  prologue x w c
  seqs (fun k => hop0 c k.1 k.2) keys
  seqs (fun s => seqs (fun k => hop c s k.1 k.2) keys) (List.finRange 14)
  seqs (fun k => fin o c k.1 k.2) keys

end Cert.Proof
-- ==== Proof.Ring.Protocol.lean ====
/-
  The protocol of the ring, stated once for a device `c` at every direction, step and piece.

  * The barrier cell of a device has one round with two duties of a unit each, named by directions: duty `d` is paid by
    the neighbour `nbr d c` and hands `c` that neighbour's whole landing buffer of direction `d`, into which `c` copies.
  * The send cell of a piece has fifteen rounds, one per step: the copy's read-out hands the send buffer's piece back.
  * The arrival cell of a (step, piece) has one round: the landing hands the device its slot, holding the partial sum
    `acc` of the neighbour the copy came from.

  The levels put a device's barrier below the arrivals and an arrival of step `s` at `2 + s`, so that a device waiting
  for step `s` owes arrivals of later steps only.
-/
module

public import proofs.«01_k».proof.Proof.Ring.Spec
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging copies' and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of devices -/

theorem nbr_nbr : ∀ (d : Bool) (c : Dev nD), nbr d (nbr (!d) c) = c := by decide +kernel

theorem nbr_nbr' (d : Bool) (c : Dev nD) : nbr (!d) (nbr d c) = c := by
  have h := nbr_nbr (!d) c
  rwa [Bool.not_not] at h

/-- A direction's ring as a permutation of the devices. -/
def ring (d : Bool) : Dev nD ≃ Dev nD := ⟨nbr d, nbr (!d), nbr_nbr' d, nbr_nbr d⟩

/-! ## The cells -/

/-- A piece's place: a direction and a column piece; and its place in a step. -/
abbrev Key := Bool × Fin 4
abbrev Slot := Fin 15 × Key

/-- The kernel's own semaphores: a send semaphore per piece, an arrival semaphore per (step, piece). -/
def osem : Key ⊕ Slot → SemLoc sig
  | .inl k => .dma (sndSem k.1 k.2)
  | .inr x => .dma (rcvSem x.2.1 x.1 x.2.2)

/-- With the barrier semaphore, all the ring's. -/
def csem : Unit ⊕ (Key ⊕ Slot) → SemLoc sig
  | .inl _ => .reg barrier0
  | .inr o => osem o

abbrev cell (c : Dev nD) (k : Unit ⊕ (Key ⊕ Slot)) : GSem nD τ sig := ((c : Thread nD τ), csem k)
abbrev barC (c : Dev nD) : GSem nD τ sig := cell c (.inl ())
abbrev sndC (c : Dev nD) (k : Key) : GSem nD τ sig := cell c (.inr (.inl k))
abbrev rcvC (c : Dev nD) (x : Slot) : GSem nD τ sig := cell c (.inr (.inr x))

/-- What a semaphore is to the ring, read off its number. -/
def decD (n : ℕ) : Option (Unit ⊕ (Key ⊕ Slot)) :=
  if n < 3 then none
  else if n < 7 then some (.inr (.inl (false, Fin.ofNat 4 (n - 3))))
  else if n < 11 then some (.inr (.inl (true, Fin.ofNat 4 (n - 7))))
  else if n < 71 then some (.inr (.inr (Fin.ofNat 15 ((n - 11) / 4), (false, Fin.ofNat 4 (n - 11)))))
  else some (.inr (.inr (Fin.ofNat 15 ((n - 71) / 4), (true, Fin.ofNat 4 (n - 71)))))

def dec : SemLoc sig → Option (Unit ⊕ (Key ⊕ Slot))
  | .reg _ => some (.inl ())
  | .dma q => decD q.val

theorem dec_csem : ∀ k, dec (csem k) = some k := by decide +kernel

theorem csem_injective : Function.Injective csem := fun a b h => by
  have h' := congrArg dec h
  rw [dec_csem, dec_csem] at h'
  exact Option.some.inj h'

theorem osem_injective : Function.Injective osem := fun a b h => Sum.inr.inj (csem_injective (show csem (.inr a) = csem (.inr b) from h))

theorem cell_injective : Function.Injective (fun ck : Dev nD × (Unit ⊕ (Key ⊕ Slot)) => cell ck.1 ck.2) := by
  rintro ⟨c, k⟩ ⟨c', k'⟩ h
  have h1 : c = c' := congrArg (fun g : GSem nD τ sig => g.1.1) h
  have h2 : k = k' := csem_injective (congrArg Prod.snd h)
  subst h1; subst h2; rfl

/-- The credit of a piece: every copy of the ring moves one. -/
def N : ℕ := (bufV false 0).view.dmaCredit
theorem N_pos : 0 < N := View.dmaCredit_pos _ (by decide)
theorem buf_credit : ∀ d p, (bufV d p).view.dmaCredit = N
  | false, _ => rfl
  | true, _ => rfl
theorem com_credit : ∀ d s p, (comV d s p).view.dmaCredit = N
  | false, _, _ => rfl
  | true, _, _ => rfl

attribute [irreducible] N

/-! ## Contents -/

/-- The two operands' contents on every device. -/
structure Ops (F : FTy → Type) where
  x : Dev nD → Vec F S2048x128 .bf16
  w : Dev nD → Vec F S128x2048 .bf16

variable (A : Ops F)

/-- The row block of `x` that step `s` reads, the device's own row block, and a piece's columns of `w`. -/
def rows (d : Bool) (s : Fin 15) (c : Dev nD) : Vec F S128x128 .bf16 := xbM.view.readAt (Elt F) (rowRect d c s).toLoadRect (A.x c)
def own (c : Dev nD) : Vec F S128x128 .bf16 := xbM.view.readAt (Elt F) (ownRect c).toLoadRect (A.x c)
def cols (k : Key) (c : Dev nD) : Vec F S128x256 .bf16 := wbM.view.readAt (Elt F) (colRect k.1 k.2).toLoadRect (A.w c)

/-- The partial sum a device sends at step `s`: its product, plus what the neighbour behind it sent at the step before. -/
def acc (k : Key) : (s : ℕ) → s < 15 → Dev nD → FVec F S128x256 .bf16
  | 0, h, c => piece (rows A k.1 ⟨0, h⟩ c) (cols A k c)
  | s + 1, h, c => addf (piece (rows A k.1 ⟨s + 1, h⟩ c) (cols A k c)) (acc k s (Nat.lt_of_succ_lt h) (nbr (!k.1) c))

/-- What a slot holds once it has landed. -/
def arr (x : Slot) (c : Dev nD) : FVec F S128x256 .bf16 := acc A x.2 x.1.val x.1.isLt (nbr (!x.2.1) c)

/-! ## What the duties hand over -/

def bufAny (c : Dev nD) (k : Key) : sProp 𝕄 :=
  iprop(∃ f : Buf (Elt F) ((bufV k.1 k.2).view.loc (c : Thread nD τ)), (bufV k.1 k.2).view.loc (c : Thread nD τ) ↦[(bufV k.1 k.2).view.set]{fullShare} f)
def slotAny (c : Dev nD) (x : Slot) : sProp 𝕄 :=
  iprop(∃ f : Buf (Elt F) ((comV x.2.1 x.1 x.2.2).view.loc (c : Thread nD τ)),
    (comV x.2.1 x.1 x.2.2).view.loc (c : Thread nD τ) ↦[(comV x.2.1 x.1 x.2.2).view.set]{fullShare} f)
def slotAt (c : Dev nD) (x : Slot) (v : Vec F S128x256 .bf16) : sProp 𝕄 :=
  iprop(∃ f : Buf (Elt F) ((comV x.2.1 x.1 x.2.2).view.loc (c : Thread nD τ)), ⌜(comV x.2.1 x.1 x.2.2).view.read (Elt F) f = v⌝
    ∗ (comV x.2.1 x.1 x.2.2).view.loc (c : Thread nD τ) ↦[(comV x.2.1 x.1 x.2.2).view.set]{fullShare} f)
def comAny (c : Dev nD) (d : Bool) : sProp 𝕄 :=
  iprop(∃ f : Buf (Elt F) ((comM d).view.loc (c : Thread nD τ)), (comM d).view.loc (c : Thread nD τ) ↦[(comM d).view.set]{fullShare} f)

instance bufAny_storable (c : Dev nD) (k : Key) : BI.Storable (upEmb : UEmb _ 𝕄) (bufAny (F := F) c k) := by unfold bufAny; infer_instance
instance slotAt_storable (c : Dev nD) (x : Slot) (v) : BI.Storable (upEmb : UEmb _ 𝕄) (slotAt (F := F) c x v) := by unfold slotAt; infer_instance
instance comAny_storable (c : Dev nD) (d : Bool) : BI.Storable (upEmb : UEmb _ 𝕄) (comAny (F := F) c d) := by unfold comAny; infer_instance

/-! ## The schedule -/

def dutiesOf : Option (Unit ⊕ (Key ⊕ Slot)) → ℕ → Finset Bool
  | some (.inl _), r => if r = 0 then Finset.univ else ∅
  | some (.inr (.inl _)), r => if r < 15 then {false} else ∅
  | some (.inr (.inr _)), r => if r = 0 then {false} else ∅
  | none, _ => ∅

def amountOf : Option (Unit ⊕ (Key ⊕ Slot)) → ℕ
  | some (.inl _) => 1
  | _ => N

def payOf (c : Dev nD) : Option (Unit ⊕ (Key ⊕ Slot)) → Bool → sProp 𝕄
  | some (.inl _), d => comAny (nbr d c) d
  | some (.inr (.inl k)), _ => bufAny c k
  | some (.inr (.inr x)), _ => slotAt c x (arr A x c)
  | none, _ => iprop(emp)

theorem amountOf_pos : ∀ o, 0 < amountOf o
  | some (.inl _) => Nat.one_pos
  | some (.inr _) => N_pos
  | none => N_pos

def Rd : Rounds.Schedule (GSem nD τ sig) Bool 𝕄 where
  duties g r := dutiesOf (dec g.2) r
  unitless _ := False
  amount g _ _ := amountOf (dec g.2)
  payload g _ d := payOf A g.1.1 (dec g.2) d
  amount_pos g _ _ _ := amountOf_pos _

instance payOf_storable (c : Dev nD) : ∀ (o : Option (Unit ⊕ (Key ⊕ Slot))) (d : Bool), BI.Storable (upEmb : UEmb _ 𝕄) (payOf A c o d)
  | some (.inl _), d => by unfold payOf; infer_instance
  | some (.inr (.inl _)), _ => by unfold payOf; infer_instance
  | some (.inr (.inr _)), _ => by unfold payOf; infer_instance
  | none, _ => by unfold payOf; infer_instance

instance Rd_storable (g : GSem nD τ sig) (r : ℕ) (d : Bool) : BI.Storable (upEmb : UEmb _ 𝕄) ((Rd A).payload g r d) := payOf_storable A _ _ _

theorem duties_cell (c : Dev nD) (k) (r : ℕ) : (Rd A).duties (cell c k) r = dutiesOf (some k) r := by
  show dutiesOf (dec (csem k)) r = _; rw [dec_csem]
theorem amount_cell (c : Dev nD) (k) (r : ℕ) (d : Bool) : (Rd A).amount (cell c k) r d = amountOf (some k) := by
  show amountOf (dec (csem k)) = _; rw [dec_csem]
theorem payload_cell (c : Dev nD) (k) (r : ℕ) (d : Bool) : (Rd A).payload (cell c k) r d = payOf A c (some k) d := by
  show payOf A c (dec (csem k)) d = _; rw [dec_csem]

theorem duties_bar (c : Dev nD) : (Rd A).duties (barC c) 0 = Finset.univ := duties_cell A c _ 0
theorem duties_snd (c : Dev nD) (k : Key) {r : ℕ} (h : r < 15) : (Rd A).duties (sndC c k) r = {false} := (duties_cell A c _ r).trans (if_pos h)
theorem duties_rcv (c : Dev nD) (x : Slot) : (Rd A).duties (rcvC c x) 0 = {false} := duties_cell A c _ 0

theorem expect_bar (c : Dev nD) : (Rd A).expect (barC c) 0 = 2 := by
  unfold Schedule.expect Schedule.amountOf
  rw [duties_bar, Finset.sum_congr rfl fun d _ => amount_cell A c _ 0 d]; rfl
theorem expect_snd (c : Dev nD) (k : Key) {r : ℕ} (h : r < 15) : (Rd A).expect (sndC c k) r = N := by
  unfold Schedule.expect Schedule.amountOf; rw [duties_snd A c k h, Finset.sum_singleton, amount_cell]; rfl
theorem expect_rcv (c : Dev nD) (x : Slot) : (Rd A).expect (rcvC c x) 0 = N := by
  unfold Schedule.expect Schedule.amountOf; rw [duties_rcv, Finset.sum_singleton, amount_cell]; rfl

/-- What a wait for a whole round hands over. -/
theorem rest_bar (c : Dev nD) : bigSep ((Rd A).duties (barC c) 0 \ ∅) (fun d => (Rd A).payload (barC c) 0 d)
    = iprop(comAny (F := F) (nbr false c) false ∗ comAny (nbr true c) true) := by
  rw [Finset.sdiff_empty, duties_bar, bigSep_univ_eq_bigSepL [false, true] (by decide) (by decide), bigSepL_cons_cons, bigSepL_singleton,
    payload_cell, payload_cell]
  rfl
theorem rest_snd (c : Dev nD) (k : Key) {r : ℕ} (h : r < 15) :
    bigSep ((Rd A).duties (sndC c k) r \ ∅) (fun d => (Rd A).payload (sndC c k) r d) = bufAny (F := F) c k := by
  rw [Finset.sdiff_empty, duties_snd A c k h, bigSep_singleton, payload_cell]; rfl
theorem rest_rcv (c : Dev nD) (x : Slot) :
    bigSep ((Rd A).duties (rcvC c x) 0 \ ∅) (fun d => (Rd A).payload (rcvC c x) 0 d) = slotAt c x (arr A x c) := by
  rw [Finset.sdiff_empty, duties_rcv, bigSep_singleton, payload_cell]; rfl

/-! ## What a device owes, and the levels -/

/-- The arrivals device `c` still has to bring about at its neighbours, the set `S` of them. -/
def Ow (c : Dev nD) (S : Finset Slot) : CellTallies nD τ sig Unit := ∑ x ∈ S, tallyAt (rcvC (nbr x.2.1 c) x) () N

/-- At launch: all arrivals, and a unit at each neighbour's barrier, the left one's signalled first. -/
def O₁ (c : Dev nD) : CellTallies nD τ sig Unit := Ow c Finset.univ + tallyAt (barC (nbr false c)) () 1
def O₀ (c : Dev nD) : CellTallies nD τ sig Unit := O₁ c + tallyAt (barC (nbr true c)) () 1

theorem Ow_erase (c : Dev nD) {S : Finset Slot} {x : Slot} (h : x ∈ S) :
    Ow c S = Ow c (S.erase x) + tallyAt (rcvC (nbr x.2.1 c) x) () N := (Finset.sum_erase_add S _ h).symm

theorem Ow_empty (c : Dev nD) : Ow c ∅ = 0 := Finset.sum_empty

def L (g : GSem nD τ sig) : Finset Unit := if g.1.2 = .tc then {()} else ∅

def lvOf : Option (Unit ⊕ (Key ⊕ Slot)) → ℕ
  | some (.inl _) => 1
  | some (.inr (.inr x)) => 2 + x.1.val
  | _ => 0

def lv (g : GSem nD τ sig) (_ : Unit) : ℕ := lvOf (dec g.2)

theorem lv_cell (c : Dev nD) (k) (u : Unit) : lv (cell c k) u = lvOf (some k) := by
  show lvOf (dec (csem k)) = _; rw [dec_csem]

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g h : GSem nD τ sig} {u : Unit} {n : ℕ} (hp : 0 < tallyAt g () n h u) : h = g := by
  rw [tallyAt_apply] at hp
  by_contra hn
  rw [if_neg (fun h' => hn h'.1)] at hp
  exact Nat.lt_irrefl 0 hp

theorem Ow_pos {c : Dev nD} {S : Finset Slot} {g : GSem nD τ sig} {u : Unit} (h : 0 < Ow c S g u) :
    ∃ x ∈ S, g = rcvC (nbr x.2.1 c) x := by
  unfold Ow at h
  rw [Finset.sum_apply, Finsupp.finset_sum_apply] at h
  by_contra hn
  refine absurd h (Nat.not_lt.mpr (Nat.le_of_eq (Finset.sum_eq_zero fun x hx => ?_)))
  by_contra h0
  exact hn ⟨x, hx, tallyAt_pos (Nat.pos_of_ne_zero h0)⟩

theorem O₀_pos {c : Dev nD} {g : GSem nD τ sig} {u : Unit} (h : 0 < O₀ c g u) :
    ∃ c' k, g = cell c' k ∧ 0 < lvOf (some k) := by
  unfold O₀ O₁ at h
  rw [Pi.add_apply, Finsupp.add_apply, Pi.add_apply, Finsupp.add_apply] at h
  rcases Nat.eq_zero_or_pos (Ow c Finset.univ g u) with h1 | h1
  · rcases Nat.eq_zero_or_pos (tallyAt (barC (nbr false c)) () 1 g u) with h2 | h2
    · exact ⟨_, _, tallyAt_pos (g := barC (nbr true c)) (u := u) (n := 1) (by omega), Nat.one_pos⟩
    · exact ⟨_, _, tallyAt_pos h2, Nat.one_pos⟩
  · obtain ⟨x, -, hx⟩ := Ow_pos h1
    exact ⟨_, _, hx, by show 0 < 2 + x.1.val; omega⟩

/-- A device may wait at a cell of level `b` while every arrival it owes is above `b`. -/
theorem mayWait_Ow (c : Dev nD) (k) (S : Finset Slot) (h : ∀ x ∈ S, lvOf (some k) < 2 + x.1.val) :
    (levAts L lv : sProp 𝕄) ⊢ MayWait (c : Thread nD τ) (csem k) () (Ow c S) :=
  MayOwe.of_cut (L := L) (lev := lv) (lvOf (some k))
    (fun p hp => by rw [Finset.mem_singleton.mp hp, L_tc]; exact Finset.mem_singleton_self _)
    (fun g u hg => by obtain ⟨x, -, rfl⟩ := Ow_pos hg; exact Finset.mem_singleton_self _)
    (fun p hp => by rw [Finset.mem_singleton.mp hp]; exact le_of_eq (lv_cell c k ()))
    (fun g u hg => by obtain ⟨x, hx, rfl⟩ := Ow_pos hg; rw [lv_cell]; exact h x hx)

theorem mayWait_snd (c : Dev nD) (k : Key) (S : Finset Slot) :
    (levAts L lv : sProp 𝕄) ⊢ MayWait (c : Thread nD τ) (csem (.inr (.inl k))) () (Ow c S) :=
  mayWait_Ow c (.inr (.inl k)) S fun x _ => Nat.lt_of_lt_of_le Nat.two_pos (Nat.le_add_right 2 x.1.val)

theorem mayWait_rcv (c : Dev nD) (x : Slot) (S : Finset Slot) (h : ∀ y ∈ S, x.1 < y.1) :
    (levAts L lv : sProp 𝕄) ⊢ MayWait (c : Thread nD τ) (csem (.inr (.inr x))) () (Ow c S) :=
  mayWait_Ow c (.inr (.inr x)) S fun y hy => Nat.add_lt_add_left (h y hy) 2

/-- At a staging semaphore it may wait whatever it owes. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by obtain ⟨c', k, rfl, -⟩ := O₀_pos hg; exact Finset.mem_singleton_self _)
      (fun p hp => by rw [Finset.mem_singleton.mp hp]; show lvOf (dec (.dma q)) ≤ 0; rw [hq]; exact le_refl _)
      (fun g u hg => by obtain ⟨c', k, rfl, hk⟩ := O₀_pos hg; rw [lv_cell]; exact hk)
  · rw [MayWait_zero]; iintro -; iempintro

/-! ## The records every device keeps: the cells' invariants and that each has reached round 0 -/

def records (K : Dev nD × (Unit ⊕ (Key ⊕ Slot)) → ℕ) : sProp 𝕄 :=
  iprop((bigSep Finset.univ fun ck : Dev nD × (Unit ⊕ (Key ⊕ Slot)) => cellInv ER (Rd A) (K ck) (cell ck.1 ck.2))
    ∗ (bigSep Finset.univ fun ck : Dev nD × (Unit ⊕ (Key ⊕ Slot)) => reached ER (cell ck.1 ck.2) 0))

def levs : sProp 𝕄 := levAts L lv

instance levs_persistent : BI.Persistent (levs : sProp 𝕄) := by unfold levs; infer_instance

/-- With the levels. -/
def ctx (K : Dev nD × (Unit ⊕ (Key ⊕ Slot)) → ℕ) : sProp 𝕄 := iprop(records A K ∗ levs)

instance records_persistent (K) : BI.Persistent (records A K : sProp 𝕄) := by unfold records; infer_instance
instance ctx_persistent (K) : BI.Persistent (ctx A K : sProp 𝕄) := by unfold ctx; infer_instance

theorem all_elim {I : Type} [Fintype I] [DecidableEq I] (Φ : I → sProp 𝕄) (i : I) : bigSep Finset.univ Φ ⊢ Φ i := bigSep_elim (Finset.mem_univ i)

theorem ctx_inv (K) (c : Dev nD) (k) : (ctx A K : sProp 𝕄) ⊢ cellInv ER (Rd A) (K (c, k)) (cell c k) := by
  unfold ctx records
  iintro ⟨⟨H, -⟩, -⟩
  iapply (all_elim (fun ck : Dev nD × (Unit ⊕ (Key ⊕ Slot)) => (cellInv ER (Rd A) (K ck) (cell ck.1 ck.2) : sProp 𝕄)) (c, k))
  iexact H
theorem ctx_reached (K) (c : Dev nD) (k) : (ctx A K : sProp 𝕄) ⊢ reached ER (cell c k) 0 := by
  unfold ctx records
  iintro ⟨⟨-, H⟩, -⟩
  iapply (all_elim (fun ck : Dev nD × (Unit ⊕ (Key ⊕ Slot)) => (reached ER (cell ck.1 ck.2) 0 : sProp 𝕄)) (c, k))
  iexact H
theorem ctx_lev (K) : (ctx A K : sProp 𝕄) ⊢ levs := by
  unfold ctx
  iintro ⟨-, H⟩
  iexact H
theorem ctx_levAts (K) : (ctx A K : sProp 𝕄) ⊢ levAts L lv := by
  refine BI.Entails.trans (ctx_lev A K) ?_
  unfold levs
  exact BI.Entails.refl _
theorem ctx_mayWait (K) (c : Dev nD) (k) (S : Finset Slot) (h : ∀ x ∈ S, lvOf (some k) < 2 + x.1.val) :
    (ctx A K : sProp 𝕄) ⊢ MayWait (c : Thread nD τ) (csem k) () (Ow c S) :=
  BI.Entails.trans (ctx_levAts A K) (mayWait_Ow (F := F) c k S h)

end Cert.Proof

end
-- ==== Proof.Ring.Hop.lean ====
/-
  The two halves of a hop, each once for every device, direction, step and piece: the two waits that end the copy of the
  step before (`wp_waits`), and the store and copy of the step's own partial sum (`wp_send`).
-/
module

public import proofs.«01_k».proof.Proof.Ring.Protocol
public import Idealize.ShloMosaic.Lib.Pipeline.Value

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (A : Ops F) (K : Dev nD × (Unit ⊕ (Key ⊕ Slot)) → ℕ)

/-- A device's dues, whatever waits it has made. -/
def owing (c : Dev nD) (S : Finset Slot) : sProp 𝕄 := iprop(∃ W : Waits sig Unit, owes (c : Thread nD τ) (Ow c S) W)

/-- The program `p` on device `c` ends in `Q`. -/
abbrev runs (c : Dev nD) (p : KP F PUnit) (Q : PUnit → sProp 𝕄) : sProp 𝕄 :=
  wp frame (wpE (defs₀ (F := F)) 𝒱₀ (c : Thread nD τ) none) Set.univ p Q

/-- The two waits are waits of a piece's credit at the send cell and at the arrival cell. -/
theorem hw_snd (c : Dev nD) (d : Bool) (s : Fin 15) (p : Fin 4) (Q : PUnit → sProp 𝕄) :
    wpE (defs₀ (F := F)) 𝒱₀ (c : Thread nD τ) none Set.univ
      (.waitDma2 (sndSem d p) (comV d s p) (bufV d p) (com_exact d s p) (buf_exact d p)) Q
    = waitSpec (c : Thread nD τ) Set.univ (csem (.inr (.inl (d, p)))) N Q := by
  rw [wpE_waitDma2_eq, buf_credit]; rfl
theorem hw_rcv (c : Dev nD) (d : Bool) (s : Fin 15) (p : Fin 4) (Q : PUnit → sProp 𝕄) :
    wpE (defs₀ (F := F)) 𝒱₀ (c : Thread nD τ) none Set.univ
      (.waitDma2 (rcvSem d s p) (bufV d p) (comV d s p) (buf_exact d p) (com_exact d s p)) Q
    = waitSpec (c : Thread nD τ) Set.univ (csem (.inr (.inr (s, (d, p))))) N Q := by
  rw [wpE_waitDma2_eq, com_credit]; rfl

/-- The waits ending the copy of step `s`: the send buffer's piece comes back, and the slot of step `s` is the device's,
    holding what the neighbour sent. -/
theorem wp_waits (c : Dev nD) (d : Bool) (s : Fin 15) (p : Fin 4) (S : Finset Slot) (hS : ∀ x ∈ S, s < x.1) (Q : PUnit → sProp 𝕄) :
    iprop(ctx A K ∗ cred (tallyAt (sndC c (d, p)) () N) ∗ atPos ER (sndC c (d, p)) s.val ∅ 0
        ∗ cred (tallyAt (rcvC c (s, (d, p))) () N) ∗ atPos ER (rcvC c (s, (d, p))) 0 ∅ 0 ∗ owing c S)
      ⊢ iprop(((owing c S ∗ bufAny c (d, p) ∗ atPos ER (sndC c (d, p)) (s.val + 1) ∅ 0 ∗ reached ER (sndC c (d, p)) (s.val + 1)
            ∗ atPos ER (rcvC c (s, (d, p))) 1 ∅ 0 ∗ slotAt c (s, (d, p)) (arr A (s, (d, p)) c)) -∗ Q ⟨⟩)
          -∗ runs c (waits d s p) Q) := by
  unfold waits runs
  simp only [Prog.lift, Prog.bind_op, Prog.bind_ret]
  unfold owing
  iintro ⟨#Hctx, HcS, HatS, HcR, HatR, ⟨%W, HO⟩⟩ Hk
  iapply (Rounds.wp_wait_rest_token 𝒱₀ ER (Rd A) (c : Thread nD τ) none (κ := K (c, .inr (.inl (d, p)))) (sm := csem (.inr (.inl (d, p)))) (k' := N)
      (hw_snd c d s p) (Set.mem_univ _) () (O := Ow c S) (W := W) (R := s.val) (m := 0) (T := ∅)
      ((Nat.zero_add N).trans (expect_snd A c (d, p) s.isLt).symm)) $$ [HcS HO HatS]
  · isplitr; · iapply (ctx_inv A K c (.inr (.inl (d, p)))); iexact Hctx
    isplitl [HcS]; · iexact HcS
    isplitl [HO]; · iexact HO
    isplitr; · iapply (ctx_mayWait A K c (.inr (.inl (d, p))) S fun x _ => Nat.lt_of_lt_of_le Nat.two_pos (Nat.le_add_right 2 x.1.val)); iexact Hctx
    iexact HatS
  iintro ⟨HO, HatS, HrS, Hpay⟩
  ihave Hb := (Entails.of_eq (rest_snd A c (d, p) s.isLt)) $$ Hpay
  iapply (Rounds.wp_wait_rest_token 𝒱₀ ER (Rd A) (c : Thread nD τ) none (κ := K (c, .inr (.inr (s, (d, p))))) (sm := csem (.inr (.inr (s, (d, p))))) (k' := N)
      (hw_rcv c d s p) (Set.mem_univ _) () (O := Ow c S) (R := 0) (m := 0) (T := ∅)
      ((Nat.zero_add N).trans (expect_rcv A c (s, (d, p))).symm)) $$ [HcR HO HatR]
  · isplitr; · iapply (ctx_inv A K c (.inr (.inr (s, (d, p))))); iexact Hctx
    isplitl [HcR]; · iexact HcR
    isplitl [HO]; · iexact HO
    isplitr; · iapply (ctx_mayWait A K c (.inr (.inr (s, (d, p)))) S fun x hx => Nat.add_lt_add_left (hS x hx) 2); iexact Hctx
    iexact HatR
  iintro ⟨HO, HatR, -, Hpay⟩
  ihave Hs := (Entails.of_eq (rest_rcv A c (s, (d, p)))) $$ Hpay
  rw [wp_ret]; imodintro
  iapply Hk
  isplitl [HO]; · iexists _; iexact HO
  isplitl [Hb]; · iexact Hb
  isplitl [HatS]; · iexact HatS
  isplitl [HrS]; · iexact HrS
  isplitl [HatR]; · iexact HatR
  iexact Hs

/-- A piece of the send buffer is read as its block, flattened. -/
theorem read_bufV (d : Bool) (p : Fin 4) (g : (bufM d).view.ty.Contents (Elt F)) :
    (bufV d p).view.read (Elt F) g = shapeCast S128x256 (((bufM d).access (bufRect p)).read (Elt F) g) squeezes_S1x128x256_S128x256.numel_eq := rfl

/-- What a matrix stored as a piece of the send buffer reads back as. -/
theorem read_buf (d : Bool) (p : Fin 4) (f : (bufM d).view.ty.Contents (Elt F)) (v : FVec F S128x256 .bf16) :
    (bufV d p).view.read (Elt F) (((bufM d).access (bufRect p)).write (Elt F) f
      (shapeCast S1x128x256 v shapeCasts_S128x256_S1x128x256) Finset.univ) = v := by
  rw [read_bufV, View.read_write_univ]
  exact shapeCast_shapeCast v shapeCasts_S128x256_S1x128x256 squeezes_S1x128x256_S128x256.numel_eq

theorem set_buf (d : Bool) (p : Fin 4) : (bufV d p).view.set = ((bufM d).access (bufRect p)).set := View.set_reshape _ _
theorem set_com (d : Bool) (s : Fin 15) (p : Fin 4) : (comV d s p).view.set = ((comM d).access (comRect s p)).set := View.set_reshape _ _

theorem pts_buf (c : Dev nD) (d : Bool) (p : Fin 4) (f : Buf (Elt F) ((bufV d p).view.loc (c : Thread nD τ))) :
    ((bufV d p).view.loc (c : Thread nD τ) ↦[(bufV d p).view.set]{fullShare} f : sProp 𝕄)
      = (((bufM d).access (bufRect p)).loc (c : Thread nD τ) ↦[((bufM d).access (bufRect p)).set]{fullShare} f) :=
  congrArg (fun T => ((bufV d p).view.loc (c : Thread nD τ) ↦[T]{fullShare} f : sProp 𝕄)) (set_buf d p)
theorem pts_com (c : Dev nD) (d : Bool) (s : Fin 15) (p : Fin 4) (f : Buf (Elt F) ((comV d s p).view.loc (c : Thread nD τ))) :
    ((comV d s p).view.loc (c : Thread nD τ) ↦[(comV d s p).view.set]{fullShare} f : sProp 𝕄)
      = (((comM d).access (comRect s p)).loc (c : Thread nD τ) ↦[((comM d).access (comRect s p)).set]{fullShare} f) :=
  congrArg (fun T => ((comV d s p).view.loc (c : Thread nD τ) ↦[T]{fullShare} f : sProp 𝕄)) (set_com d s p)

/-- A slot loaded whole and flattened is what it reads as. -/
theorem flat_com (d : Bool) (s : Fin 15) (p : Fin 4) (f : (comM d).view.ty.Contents (Elt F)) :
    flat ((comM d).view.readAt (Elt F) (comRect s p).toLoadRect f) = (comV d s p).view.read (Elt F) f := rfl

/-- The send buffer after the store of `v` at piece `p`. -/
abbrev stored (d : Bool) (p : Fin 4) (f : (bufM d).view.ty.Contents (Elt F)) (v : FVec F S128x256 .bf16) : (bufM d).view.ty.Contents (Elt F) :=
  ((bufM d).access (bufRect p)).write (Elt F) f (shapeCast S1x128x256 v shapeCasts_S128x256_S1x128x256) Finset.univ

/-- The sender's payload: its piece of the send buffer, whatever is in it. -/
theorem pay_snd (c : Dev nD) (d : Bool) (s : Fin 15) (p : Fin 4) (f : Buf (Elt F) ((bufV d p).view.loc (c : Thread nD τ))) :
    ((bufV d p).view.loc (c : Thread nD τ) ↦[(bufV d p).view.set]{fullShare} f : sProp 𝕄)
      ⊢ (Rd A).payload (sndC c (d, p)) s.val false := by
  refine BI.Entails.trans ?_ (Entails.of_eq (payload_cell A c (.inr (.inl (d, p))) s.val false).symm)
  show _ ⊢ bufAny c (d, p)
  unfold bufAny
  iintro H; iexists f; iexact H

/-- The receiver's payload: its slot holding the partial sum sent. -/
theorem pay_rcv (c : Dev nD) (d : Bool) (s : Fin 15) (p : Fin 4) (f : (bufM d).view.ty.Contents (Elt F)) (v : FVec F S128x256 .bf16)
    (hv : v = acc A (d, p) s.val s.isLt c) (g : Buf (Elt F) ((comV d s p).view.loc ((nbr d c : Dev nD) : Thread nD τ))) :
    ((comV d s p).view.loc ((nbr d c : Dev nD) : Thread nD τ) ↦[(comV d s p).view.set]{fullShare}
        ((comV d s p).view.write (Elt F) g ((bufV d p).view.read (Elt F) (stored d p f v)) Finset.univ) : sProp 𝕄)
      ⊢ (Rd A).payload (rcvC (nbr d c) (s, (d, p))) 0 false := by
  refine BI.Entails.trans ?_ (Entails.of_eq (payload_cell A (nbr d c) (.inr (.inr (s, (d, p)))) 0 false).symm)
  show _ ⊢ slotAt (nbr d c) (s, (d, p)) (arr A (s, (d, p)) (nbr d c))
  unfold slotAt
  iintro H
  iexists ((comV d s p).view.write (Elt F) g ((bufV d p).view.read (Elt F) (stored d p f v)) Finset.univ)
  isplitr
  swap
  · iexact H
  · ipureintro
    show (comV d s p).view.read (Elt F) _ = arr A (s, (d, p)) (nbr d c)
    rw [View.read_write_univ]
    refine (read_buf d p f v).trans ?_
    rw [hv]; unfold arr
    show _ = acc A (d, p) s.val s.isLt (nbr (!d) (nbr d c))
    rw [nbr_nbr']

/-- The store and the copy of step `s`'s partial sum: the neighbour's arrival is no longer owed. -/
theorem wp_send (c : Dev nD) (d : Bool) (s : Fin 15) (p : Fin 4) (S : Finset Slot) (hS : (s, (d, p)) ∈ S) (v : FVec F S128x256 .bf16)
    (hv : v = acc A (d, p) s.val s.isLt c) (Q : PUnit → sProp 𝕄) :
    iprop(ctx A K ∗ bufAny c (d, p) ∗ slotAny (nbr d c) (s, (d, p)) ∗ dutyTok ER (sndC c (d, p)) s.val false ∗ reached ER (sndC c (d, p)) s.val
        ∗ dutyTok ER (rcvC (nbr d c) (s, (d, p))) 0 false ∗ owing c S)
      ⊢ iprop(((cred (tallyAt (sndC c (d, p)) () N) ∗ owing c (S.erase (s, (d, p)))) -∗ Q ⟨⟩)
          -∗ runs c (send d c s p v) Q) := by
  unfold send runs
  simp only [Prog.lift, Prog.bind_op, Prog.bind_ret]
  unfold owing bufAny slotAny
  iintro ⟨#Hctx, ⟨%f, Hb⟩, ⟨%g, Hs⟩, HtS, HrS, HtR, ⟨%W, HO⟩⟩ Hk
  ihave Hb := (Entails.of_eq (pts_buf c d p f)) $$ Hb
  iapply (wp_load_rect 𝒱₀ (c : Thread nD τ) none Set.univ (m := bufM d) (r := bufRect p) (Finset.Subset.refl _)) $$ Hb; iintro Hb
  iapply (wp_store 𝒱₀ (c : Thread nD τ) none Set.univ (m := bufM d) (r := bufRect p) (Mk := Finset.univ) (S := ((bufM d).access (bufRect p)).set) (Finset.Subset.refl _)) $$ Hb; iintro Hb
  ihave Hb := (Entails.of_eq (pts_buf c d p (stored d p f v)).symm) $$ Hb
  iapply (Rounds.wp_send_pointsTo 𝒱₀ ER (Rd A) (c : Thread nD τ) none (κ₁ := K (c, .inr (.inl (d, p)))) (κ₂ := K (nbr d c, .inr (.inr (s, (d, p)))))
    (c' := ((nbr d c : Dev nD) : Thread nD τ)) (src := bufV d p) (dst := comV d s p) (sS := csem (.inr (.inl (d, p)))) (sem := csem (.inr (.inr (s, (d, p)))))
    (r₁ := s.val) (r₂ := 0) (d₁ := false) (d₂ := false) (fd := g)
    (by show false ∈ (Rd A).duties (sndC c (d, p)) s.val; rw [duties_snd A c (d, p) s.isLt]; exact Finset.mem_singleton_self _)
    (by show false ∈ (Rd A).duties (rcvC (nbr d c) (s, (d, p))) 0; rw [duties_rcv]; exact Finset.mem_singleton_self _)
    () () N (com_credit d s p) (amount_cell A c (.inr (.inl (d, p))) s.val false) (amount_cell A (nbr d c) (.inr (.inr (s, (d, p)))) 0 false)
    (Ow c (S.erase (s, (d, p)))) (Ow_erase c hS) (W := W)
    (fs := stored d p f v) (pay_snd A c d s p _) (pay_rcv A c d s p f v hv g))
    $$ [Hb Hs HO HtS HrS HtR]
  · isplitr; · iapply (ctx_inv A K c (.inr (.inl (d, p)))); iexact Hctx
    isplitr; · iapply (ctx_inv A K (nbr d c) (.inr (.inr (s, (d, p))))); iexact Hctx
    isplitl [Hb]; · iexact Hb
    isplitl [Hs]; · iexact Hs
    isplitl [HO]; · iexact HO
    isplitl [HtS]; · iexact HtS
    isplitl [HrS]; · iexact HrS
    isplitl [HtR]; · iexact HtR
    iapply (ctx_reached A K (nbr d c) (.inr (.inr (s, (d, p))))); iexact Hctx
  iintro ⟨HcS, HO⟩
  rw [wp_ret]; imodintro
  iapply Hk
  isplitl [HcS]; · iexact HcS
  iexists W; iexact HO

end Cert.Proof

end
-- ==== Proof.Ring.Chain.lean ====
/-
  A piece's way round the ring on one device, as the resources it holds between its hops, and the body's stages: a stage
  runs the same program at the eight pieces in order, and takes each piece from one state to the next.
-/
module

public import proofs.«01_k».proof.Proof.Ring.Hop
public import Idealize.ShloMosaic.Lib.SparseCore.ProtocolKit

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (A : Ops F) (K : Dev nD × (Unit ⊕ (Key ⊕ Slot)) → ℕ)

/-! ## Sequencing -/

theorem runs_bind {c : Dev nD} {p q : KP F PUnit} {P R : sProp 𝕄} {Q : PUnit → sProp 𝕄}
    (hp : P ⊢ runs c p (fun _ => R)) (hq : R ⊢ runs c q Q) : P ⊢ runs c (p >>= fun _ => q) Q := by
  unfold runs
  rw [wp_bind]
  exact BI.Entails.trans hp (wp_mono _ _ _ fun _ => hq)

/-- Programs in order, with what holds before each. -/
theorem wp_seqs {α : Type} {c : Dev nD} (f : α → KP F PUnit) (P : List α → sProp 𝕄) (l₀ : List α)
    (h : ∀ a l, (a :: l) <:+ l₀ → P (a :: l) ⊢ runs c (f a) (fun _ => P l)) :
    ∀ l, l <:+ l₀ → P l ⊢ runs c (seqs f l) (fun _ => P [])
  | [], _ => by
    show _ ⊢ runs c (.ret ⟨⟩) _
    unfold runs
    rw [wp_ret]
    iintro H
    imodintro
    iexact H
  | a :: l, hl => runs_bind (h a l hl) (wp_seqs f P l₀ h l ((List.suffix_cons a l).trans hl))

/-- One member of a product replaced. -/
theorem bigSep_step {I : Type} [Fintype I] [DecidableEq I] {Φ Φ' : I → sProp 𝕄} (a : I) (h : ∀ k, k ≠ a → Φ k = Φ' k) :
    bigSep Finset.univ Φ ⊢ iprop(Φ a ∗ (Φ' a -∗ bigSep Finset.univ Φ')) := by
  rw [BI.bigSep_univ_at Φ a, BI.bigSep_univ_at Φ' a, bigSep_congr fun k hk => h k (Finset.ne_of_mem_erase hk)]
  iintro ⟨Ha, H⟩
  isplitl [Ha]; · iexact Ha
  iintro Ha
  isplitl [Ha]; · iexact Ha
  iexact H

theorem keys_nodup : keys.Nodup := by decide
theorem mem_keys : ∀ k : Key, k ∈ keys := by decide

/-- A stage: the same program at every piece, each taking its piece from `B` to `B'`, beside what they share. -/
theorem wp_stage {c : Dev nD} (f : Key → KP F PUnit) (B B' : Key → sProp 𝕄) (P : List Key → sProp 𝕄)
    (h : ∀ a l, (a :: l) <:+ keys → a ∉ l → iprop(P (a :: l) ∗ B a) ⊢ runs c (f a) (fun _ => iprop(P l ∗ B' a))) :
    iprop(P keys ∗ bigSep Finset.univ B) ⊢ runs c (seqs f keys) (fun _ => iprop(P [] ∗ bigSep Finset.univ B')) := by
  have key := wp_seqs (c := c) f (fun l => iprop(P l ∗ bigSep Finset.univ (fun k => if k ∈ l then B k else B' k))) keys
    (fun a l hl => by
      have hn : a ∉ l := (List.nodup_cons.mp (keys_nodup.sublist hl.sublist)).1
      iintro ⟨HP, HB⟩
      ihave HB := (bigSep_step (Φ := fun k => if k ∈ a :: l then B k else B' k) (Φ' := fun k => if k ∈ l then B k else B' k) a
        (fun k hk => by simp only [List.mem_cons, hk, false_or])) $$ HB
      icases HB with ⟨Ha, Hrest⟩
      ihave Hw := (h a l hl hn) $$ [HP Ha]
      · isplitl [HP]; · iexact HP
        iapply (Entails.of_eq (if_pos (List.mem_cons_self (a := a) (l := l)))); iexact Ha
      unfold runs
      iapply (wp_mono _ _ _ (Q := fun _ => iprop((P l ∗ B' a) ∗ ((if a ∈ l then B a else B' a) -∗ bigSep Finset.univ fun k => if k ∈ l then B k else B' k)))
        (fun _ => by
          rw [if_neg hn]
          iintro ⟨⟨HP, Ha⟩, Hr⟩
          isplitl [HP]; · iexact HP
          iapply Hr; iexact Ha))
      iapply (wp_frame_r _ _ _)
      isplitl [Hw]; · iexact Hw
      iexact Hrest) keys (List.suffix_refl _)
  refine BI.Entails.trans ?_ (BI.Entails.trans key ?_)
  · rw [bigSep_congr (s := Finset.univ) (Φ := fun k => if k ∈ keys then B k else B' k) (Ψ := B) fun k _ => if_pos (mem_keys k)]
    exact BI.Entails.refl _
  · exact wp_mono _ _ _ fun _ => by
      rw [bigSep_congr (s := Finset.univ) (Φ := fun k => if k ∈ [] then B k else B' k) (Ψ := B') fun k _ => if_neg (List.not_mem_nil)]

/-! ## The states of a piece -/

/-- What the steps from `n` on spend: the neighbour's slots and the duty tokens. -/
def kits (c : Dev nD) (k : Key) (n : ℕ) : sProp 𝕄 := bigSep (finFrom 15 n) fun s : Fin 15 =>
  iprop(slotAny (F := F) (nbr k.1 c) (s, k) ∗ dutyTok ER (sndC c k) s.val false ∗ dutyTok ER (rcvC (nbr k.1 c) (s, k)) 0 false)

/-- What the waits for the arrivals from `n` on spend. -/
def rkits (c : Dev nD) (k : Key) (n : ℕ) : sProp 𝕄 := bigSep (finFrom 15 n) fun s : Fin 15 =>
  iprop(atPos ER (rcvC c (s, k)) 0 ∅ 0 ∗ cred (tallyAt (rcvC c (s, k)) () N))

/-- What the waits for the arrivals before `n` have left. -/
def gots (c : Dev nD) (k : Key) (n : ℕ) : sProp 𝕄 := bigSep (finUpTo 15 n) fun s : Fin 15 =>
  iprop(slotAny (F := F) c (s, k) ∗ atPos ER (rcvC c (s, k)) 1 ∅ 0)

/-- Step `n`'s copy may start. -/
def ready (c : Dev nD) (n : ℕ) (k : Key) : sProp 𝕄 :=
  iprop(bufAny (F := F) c k ∗ atPos ER (sndC c k) n ∅ 0 ∗ reached ER (sndC c k) n ∗ kits (F := F) c k n ∗ rkits c k n ∗ gots (F := F) c k n)

/-- Step `n`'s copy has started. -/
def sent (c : Dev nD) (n : ℕ) (k : Key) : sProp 𝕄 :=
  iprop(cred (tallyAt (sndC c k) () N) ∗ atPos ER (sndC c k) n ∅ 0 ∗ kits (F := F) c k (n + 1) ∗ rkits c k n ∗ gots (F := F) c k n)

/-- The operands in the device's scratch. -/
def xw (c : Dev nD) : sProp 𝕄 :=
  iprop((xbM.view.loc (c : Thread nD τ) ↦[Finset.univ]{fullShare} (A.x c)) ∗ (wbM.view.loc (c : Thread nD τ) ↦[Finset.univ]{fullShare} (A.w c)))

/-- Loading a row block and a column block. -/
theorem wp_ops (c : Dev nD) (r : Rect S2048x128) (r' : Rect S128x2048) (h1 h2) (body : Vec F r.shape .bf16 → Vec F r'.shape .bf16 → KP F PUnit) (Q : PUnit → sProp 𝕄) :
    xw A c ⊢ iprop((xw A c -∗ runs c (body (xbM.view.readAt (Elt F) r.toLoadRect (A.x c)) (wbM.view.readAt (Elt F) r'.toLoadRect (A.w c))) Q)
      -∗ runs c (do let a ← ld xbM r h1; let b ← ld wbM r' h2; body a b) Q) := by
  unfold xw runs
  simp only [Prog.lift, Prog.bind_op, Prog.bind_ret]
  iintro ⟨Hx, Hw⟩ Hk
  iapply (wp_load 𝒱₀ (c : Thread nD τ) none Set.univ (m := xbM) (r := r.toLoadRect) (S := Finset.univ) (Finset.subset_univ _)) $$ Hx; iintro Hx
  iapply (wp_load 𝒱₀ (c : Thread nD τ) none Set.univ (m := wbM) (r := r'.toLoadRect) (S := Finset.univ) (Finset.subset_univ _)) $$ Hw; iintro Hw
  iapply Hk
  isplitl [Hx]; · iexact Hx
  iexact Hw

/-- Loading a slot that has landed. -/
theorem wp_slot (c : Dev nD) (d : Bool) (s : Fin 15) (p : Fin 4) (v : FVec F S128x256 .bf16) (h) (body : Vec F S1x1x128x256 .bf16 → KP F PUnit) (q : KP F PUnit)
    (hq : ∀ u, flat u = v → body u = q) (Q : PUnit → sProp 𝕄) :
    slotAt c (s, (d, p)) v ⊢ iprop((slotAny (F := F) c (s, (d, p)) -∗ runs c q Q) -∗ runs c (do let u ← ld (comM d) (comRect s p) h; body u) Q) := by
  unfold slotAt slotAny runs
  simp only [Prog.lift, Prog.bind_op, Prog.bind_ret]
  iintro ⟨%f, %hf, Hs⟩ Hk
  ihave Hs := (Entails.of_eq (pts_com c d s p f)) $$ Hs
  iapply (wp_load_rect 𝒱₀ (c : Thread nD τ) none Set.univ (m := comM d) (r := comRect s p) (Finset.Subset.refl _)) $$ Hs; iintro Hs
  ihave Hs := (Entails.of_eq (pts_com c d s p f).symm) $$ Hs
  have e : body (((comM d).access (comRect s p)).read (Elt F) f) = q := hq _ ((flat_com d s p f).trans hf)
  rw [e]
  iapply Hk
  iexists f; iexact Hs

/-- The copy of step `n` started. -/
theorem wp_send_ready (c : Dev nD) (k : Key) (s : Fin 15) (S : Finset Slot) (hS : (s, k) ∈ S) (v : FVec F S128x256 .bf16)
    (hv : v = acc A k s.val s.isLt c) (Q : PUnit → sProp 𝕄) :
    iprop(ctx A K ∗ ready c s.val k ∗ owing c S)
      ⊢ iprop(((sent c s.val k ∗ owing c (S.erase (s, k))) -∗ Q ⟨⟩) -∗ runs c (send k.1 c s k.2 v) Q) := by
  unfold ready sent kits
  rw [bigSep_finFrom_succ s.isLt]
  iintro ⟨#Hctx, ⟨Hb, Hat, #Hr, ⟨⟨Hs, HtS, HtR⟩, Hkits⟩, Hrk, Hg⟩, HO⟩ Hk
  iapply (wp_send A K c k.1 s k.2 S hS v hv Q) $$ [Hb Hs HtS HtR HO]
  · isplitr; · iexact Hctx
    isplitl [Hb]; · iexact Hb
    isplitl [Hs]; · iexact Hs
    isplitl [HtS]; · iexact HtS
    isplitr; · iexact Hr
    isplitl [HtR]; · iexact HtR
    iexact HO
  iintro ⟨HcS, HO⟩
  iapply Hk
  isplitr [HO]
  · isplitl [HcS]; · iexact HcS
    isplitl [Hat]; · iexact Hat
    isplitl [Hkits]; · iexact Hkits
    isplitl [Hrk]; · iexact Hrk
    iexact Hg
  · iexact HO

/-- The copy of step `s` waited for, and its arrival loaded. -/
theorem wp_waits_sent (c : Dev nD) (k : Key) (s : Fin 15) (S : Finset Slot) (hS : ∀ x ∈ S, s < x.1) (h)
    (body : Vec F S1x1x128x256 .bf16 → KP F PUnit) (q : KP F PUnit) (hq : ∀ u, flat u = arr A (s, k) c → body u = q) (Q : PUnit → sProp 𝕄) :
    iprop(ctx A K ∗ sent c s.val k ∗ owing c S)
      ⊢ iprop(((ready c (s.val + 1) k ∗ owing c S) -∗ runs c q Q)
        -∗ runs c (do waits k.1 s k.2; let u ← ld (comM k.1) (comRect s k.2) h; body u) Q) := by
  unfold ready sent rkits gots
  rw [bigSep_finFrom_succ s.isLt, bigSep_finUpTo_succ s.isLt]
  iintro ⟨#Hctx, ⟨HcS, Hat, Hkits, ⟨⟨HatR, HcR⟩, Hrk⟩, Hg⟩, HO⟩ Hk
  unfold runs
  rw [wp_bind]
  iapply (wp_waits A K c k.1 s k.2 S hS _) $$ [HcS Hat HcR HatR HO]
  · isplitr; · iexact Hctx
    isplitl [HcS]; · iexact HcS
    isplitl [Hat]; · iexact Hat
    isplitl [HcR]; · iexact HcR
    isplitl [HatR]; · iexact HatR
    iexact HO
  iintro ⟨HO, Hb, Hat, #Hr, HatR, Hs⟩
  iapply (wp_slot c k.1 s k.2 (arr A (s, k) c) h body q hq Q) $$ Hs
  iintro Hs
  iapply Hk
  isplitr [HO]
  · isplitl [Hb]; · iexact Hb
    isplitl [Hat]; · iexact Hat
    isplitr; · iexact Hr
    isplitl [Hkits]; · iexact Hkits
    isplitl [Hrk]; · iexact Hrk
    isplitr [Hg]
    · isplitl [Hs]; · iexact Hs
      iexact HatR
    iexact Hg
  · iexact HO

end Cert.Proof

end
-- ==== Proof.Ring.Stages.lean ====
/-
  The stages of the body: step 0 (`wp_first`), the steps 1 to 14 (`wp_loop`), and the last piece of work (`wp_fin`), each
  for all eight pieces.
-/
module

public import proofs.«01_k».proof.Proof.Ring.Chain

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (A : Ops F) (K : Dev nD × (Unit ⊕ (Key ⊕ Slot)) → ℕ)

/-! ## What is still to be sent -/

/-- The arrivals still owed inside step `n` with the pieces `l` to go. -/
def rem (n : ℕ) (l : List Key) : Finset Slot := Finset.univ.filter fun x => n < x.1.val ∨ (x.1.val = n ∧ x.2 ∈ l)

theorem mem_rem {n : ℕ} {l : List Key} {x : Slot} : x ∈ rem n l ↔ n < x.1.val ∨ (x.1.val = n ∧ x.2 ∈ l) := by
  unfold rem; rw [Finset.mem_filter, and_iff_right (Finset.mem_univ x)]

theorem rem_erase (s : Fin 15) (a : Key) (l : List Key) (h : a ∉ l) : (rem s.val (a :: l)).erase (s, a) = rem s.val l := by
  refine Finset.ext fun x => ?_
  obtain ⟨t, k⟩ := x
  rw [Finset.mem_erase, mem_rem, mem_rem, List.mem_cons]
  constructor
  · rintro ⟨hne, h1 | ⟨h1, h2 | h2⟩⟩
    · exact .inl h1
    · exact absurd (Prod.ext (Fin.ext h1) h2) hne
    · exact .inr ⟨h1, h2⟩
  · rintro (h1 | ⟨h1, h2⟩)
    · refine ⟨fun e => ?_, .inl h1⟩
      exact absurd (congrArg (fun y : Slot => y.1.val) e) (Nat.ne_of_gt h1)
    · refine ⟨fun e => ?_, .inr ⟨h1, .inr h2⟩⟩
      exact h ((show k = a from congrArg Prod.snd e) ▸ h2)

theorem rem_zero : rem 0 keys = Finset.univ := Finset.eq_univ_iff_forall.mpr fun x => mem_rem.mpr <| by
  rcases Nat.eq_zero_or_pos x.1.val with h | h
  · exact .inr ⟨h, mem_keys _⟩
  · exact .inl h

theorem rem_succ (n : ℕ) : rem n [] = rem (n + 1) keys := Finset.ext fun x => by
  rw [mem_rem, mem_rem]
  constructor
  · rintro (h | ⟨_, h⟩)
    · rcases Nat.eq_or_lt_of_le h with h' | h'
      · exact .inr ⟨h'.symm, mem_keys _⟩
      · exact .inl h'
    · exact absurd h List.not_mem_nil
  · rintro (h | ⟨h, _⟩)
    · exact .inl (Nat.lt_of_succ_lt h)
    · exact .inl (by rw [h]; exact Nat.lt_succ_self n)

theorem rem_last : rem 14 [] = ∅ := Finset.eq_empty_iff_forall_notMem.mpr fun x hx => by
  rcases mem_rem.mp hx with h | ⟨_, h⟩
  · exact absurd x.1.isLt (Nat.not_lt.mpr h)
  · exact absurd h List.not_mem_nil

/-! ## The steps -/

/-- What the pieces share: the context, the operands, something beside, and the dues. -/
def shared (c : Dev nD) (R : sProp 𝕄) (S : Finset Slot) : sProp 𝕄 := iprop(ctx A K ∗ xw A c ∗ R ∗ owing c S)

theorem wp_hop0 (c : Dev nD) (R : sProp 𝕄) (k : Key) (l : List Key) (hl : k ∉ l) :
    iprop(shared A K c R (rem 0 (k :: l)) ∗ ready c 0 k) ⊢ runs c (hop0 c k.1 k.2) (fun _ => iprop(shared A K c R (rem 0 l) ∗ sent c 0 k)) := by
  unfold shared hop0
  iintro ⟨⟨#Hctx, Hxw, HR, HO⟩, Hr⟩
  iapply (wp_ops A c (rowRect k.1 c 0) (colRect k.1 k.2) h_S128x128 h_S128x256 (fun a b => send k.1 c 0 k.2 (piece a b)) _) $$ Hxw
  iintro Hxw
  iapply (wp_send_ready A K c k 0 (rem 0 (k :: l)) (mem_rem.mpr (.inr ⟨rfl, List.mem_cons_self⟩)) _ rfl _) $$ [Hr HO]
  · isplitr; · iexact Hctx
    isplitl [Hr]; · iexact Hr
    iexact HO
  iintro ⟨Hs, HO⟩
  isplitr [Hs]
  · isplitr; · iexact Hctx
    isplitl [Hxw]; · iexact Hxw
    isplitl [HR]; · iexact HR
    iapply (Entails.of_eq (congrArg (owing (F := F) c) (rem_erase 0 k l hl))); iexact HO
  · iexact Hs

theorem wp_hop (c : Dev nD) (R : sProp 𝕄) (s : Fin 14) (k : Key) (l : List Key) (hl : k ∉ l) :
    iprop(shared A K c R (rem (s.val + 1) (k :: l)) ∗ sent c s.val k)
      ⊢ runs c (hop c s k.1 k.2) (fun _ => iprop(shared A K c R (rem (s.val + 1) l) ∗ sent c (s.val + 1) k)) := by
  unfold shared hop
  iintro ⟨⟨#Hctx, Hxw, HR, HO⟩, Hr⟩
  iapply (wp_ops A c (rowRect k.1 c s.succ) (colRect k.1 k.2) h_S128x128 h_S128x256
    (fun a b => do waits k.1 s.castSucc k.2; let v ← ld (comM k.1) (comRect s.castSucc k.2) h_S1x1x128x256; send k.1 c s.succ k.2 (addf (piece a b) (flat v))) _) $$ Hxw
  iintro Hxw
  iapply (wp_waits_sent A K c k s.castSucc (rem (s.val + 1) (k :: l))
    (fun x hx => by
      rcases mem_rem.mp hx with h | ⟨h, _⟩
      · exact Nat.lt_of_succ_lt h
      · exact Nat.lt_of_lt_of_eq (Nat.lt_succ_self s.val) h.symm) h_S1x1x128x256
    _ (send k.1 c s.succ k.2 (acc A k (s.val + 1) s.succ.isLt c)) (fun u hu => by rw [hu]; rfl) _) $$ [Hr HO]
  · isplitr; · iexact Hctx
    isplitl [Hr]; · iexact Hr
    iexact HO
  iintro ⟨Hr, HO⟩
  iapply (wp_send_ready A K c k s.succ (rem (s.val + 1) (k :: l)) (mem_rem.mpr (.inr ⟨rfl, List.mem_cons_self⟩)) _ rfl _) $$ [Hr HO]
  · isplitr; · iexact Hctx
    isplitl [Hr]; · iexact Hr
    iexact HO
  iintro ⟨Hs, HO⟩
  isplitr [Hs]
  · isplitr; · iexact Hctx
    isplitl [Hxw]; · iexact Hxw
    isplitl [HR]; · iexact HR
    iapply (Entails.of_eq (congrArg (owing (F := F) c) (rem_erase s.succ k l hl))); iexact HO
  · iexact Hs

/-- Between the steps: every piece's copy of step `n` has started. -/
def between (c : Dev nD) (R : sProp 𝕄) (n : ℕ) : sProp 𝕄 :=
  iprop(shared A K c R (rem n []) ∗ bigSep Finset.univ (sent (F := F) c n))

theorem wp_first (c : Dev nD) (R : sProp 𝕄) :
    iprop(shared A K c R Finset.univ ∗ bigSep Finset.univ (ready (F := F) c 0)) ⊢ runs c (seqs (fun k => hop0 c k.1 k.2) keys) (fun _ => between A K c R 0) := by
  rw [← rem_zero]
  exact wp_stage (fun k => hop0 c k.1 k.2) (ready c 0) (sent c 0) (fun l => shared A K c R (rem 0 l)) fun a l _ h => wp_hop0 A K c R a l h

theorem wp_step (c : Dev nD) (R : sProp 𝕄) (s : Fin 14) :
    between A K c R s.val ⊢ runs c (seqs (fun k => hop c s k.1 k.2) keys) (fun _ => between A K c R (s.val + 1)) := by
  unfold between
  rw [rem_succ s.val]
  exact wp_stage (fun k => hop c s k.1 k.2) (sent c s.val) (sent c (s.val + 1)) (fun l => shared A K c R (rem (s.val + 1) l))
    fun a l _ h => wp_hop A K c R s a l h

theorem suffix_finRange {a : Fin 14} {l : List (Fin 14)} (h : (a :: l) <:+ List.finRange 14) : a.val = 14 - (a :: l).length ∧ l.length < 14 := by
  obtain ⟨t, ht⟩ := h
  have hlen : t.length + (l.length + 1) = 14 := by
    have := congrArg List.length ht
    rwa [List.length_append, List.length_cons, List.length_finRange] at this
  have ha : (List.finRange 14)[t.length]? = some a := by rw [← ht]; simp
  have hb : (List.finRange 14)[t.length]? = some (⟨t.length, by omega⟩ : Fin 14) := by
    rw [List.getElem?_eq_getElem (by rw [List.length_finRange]; omega)]; simp
  have : a = ⟨t.length, by omega⟩ := Option.some.inj (ha.symm.trans hb)
  rw [List.length_cons, this]
  exact ⟨by show t.length = _; omega, by omega⟩

theorem wp_loop (c : Dev nD) (R : sProp 𝕄) :
    between A K c R 0 ⊢ runs c (seqs (fun s => seqs (fun k => hop c s k.1 k.2) keys) (List.finRange 14)) (fun _ => between A K c R 14) := by
  have h := wp_seqs (c := c) (fun s => seqs (fun k => hop c s k.1 k.2) keys) (fun l => between A K c R (14 - l.length)) (List.finRange 14)
    (fun a l h => by
      obtain ⟨h1, h2⟩ := suffix_finRange h
      have h3 : 14 - l.length = a.val + 1 := by rw [h1, List.length_cons]; omega
      rw [← h1, h3]
      exact wp_step A K c R a) (List.finRange 14) (List.suffix_refl _)
  rw [List.length_finRange, Nat.sub_self, List.length_nil, Nat.sub_zero] at h
  exact h

/-! ## The last piece of work -/

abbrev oM : Memref sig .tc .vmem S128x2048 .f32 := Memref.whole cc0_stg2_0

/-- What piece `k` of the result is stored as. -/
def res (k : Key) (c : Dev nD) : FVec F S128x256 .f32 :=
  maximumf (addf (prod (own A c) (cols A k c)) (extf .f32 (arr A (14, k) c) bitsLt_bf16_f32)) (broadcast S128x256 (Scalar.ofBits .f32 0x00000000#32))

/-- The result's staging buffer with the pieces outside `l` stored. -/
def outAt (c : Dev nD) (l : List Key) : sProp 𝕄 :=
  iprop(∃ f : Buf (Elt F) (oM.view.loc (c : Thread nD τ)), ⌜∀ k : Key, k ∉ l → (oM.access (colRect k.1 k.2)).read (Elt F) f = res A k c⌝
    ∗ oM.view.loc (c : Thread nD τ) ↦[Finset.univ]{fullShare} f)

theorem col_disj : ∀ k k' : Key, k ≠ k' → col k.1 k.2 + 256 ≤ col k'.1 k'.2 ∨ col k'.1 k'.2 + 256 ≤ col k.1 k.2 := by decide

/-- A piece stored leaves the others. -/
theorem read_other (k k' : Key) (h : k' ≠ k) (f : oM.view.ty.Contents (Elt F)) (v : FVec F S128x256 .f32) :
    (oM.access (colRect k'.1 k'.2)).read (Elt F) ((oM.access (colRect k.1 k.2)).write (Elt F) f v Finset.univ) = (oM.access (colRect k'.1 k'.2)).read (Elt F) f := by
  refine View.read_slice_write_slice_of_disjoint (v := oM.view) (colRect k'.1 k'.2) (colRect k.1 k.2) f v Finset.univ ?_
  rw [View.setOn_univ, View.set_slice, View.set_slice, Finset.disjoint_map]
  refine Finset.disjoint_left.mpr fun i hi hi' => ?_
  have h1 := Rect.mem_set_unit.mp hi 1
  have h2 := Rect.mem_set_unit.mp hi' 1
  have h3 := col_disj k' k h
  simp only [Matrix.cons_val_one, Matrix.cons_val_zero] at h1 h2
  change _ ≤ _ ∧ _ < _ + 256 at h1 h2
  omega

theorem wp_fin1 (c : Dev nD) (k : Key) (l : List Key) (hl : k ∉ l) :
    iprop((ctx A K ∗ xw A c ∗ outAt A c (k :: l) ∗ owing c ∅) ∗ sent c 14 k)
      ⊢ runs c (fin oM c k.1 k.2) (fun _ => iprop((ctx A K ∗ xw A c ∗ outAt A c l ∗ owing c ∅) ∗ ready c 15 k)) := by
  unfold fin
  iintro ⟨⟨#Hctx, Hxw, Hout, HO⟩, Hr⟩
  iapply (wp_ops A c (ownRect c) (colRect k.1 k.2) h_S128x128 h_S128x256
    (fun a b => do
      waits k.1 14 k.2
      let v ← ld (comM k.1) (comRect 14 k.2) h_S1x1x128x256
      let _ : Vec F S128x256 .f32 ← ld oM (colRect k.1 k.2) h_S128x256
      Prog.lift (.store oM (colRect k.1 k.2) (last a b v) Finset.univ (View.stores_vmem_bits_univ h_S128x256 rfl) (.inl rfl))) _) $$ Hxw
  iintro Hxw
  iapply (wp_waits_sent A K c k 14 ∅ (fun x hx => absurd hx (Finset.notMem_empty x)) h_S1x1x128x256
    _ (do
      let _ : Vec F S128x256 .f32 ← ld oM (colRect k.1 k.2) h_S128x256
      Prog.lift (.store oM (colRect k.1 k.2) (res A k c) Finset.univ (View.stores_vmem_bits_univ h_S128x256 rfl) (.inl rfl)))
    (fun u hu => by unfold last res; rw [hu]; rfl) _) $$ [Hr HO]
  · isplitr; · iexact Hctx
    isplitl [Hr]; · iexact Hr
    iexact HO
  iintro ⟨Hr, HO⟩
  unfold outAt runs
  icases Hout with ⟨%f, %hf, Ho⟩
  simp only [Prog.lift, Prog.bind_op, Prog.bind_ret]
  iapply (wp_load_rect 𝒱₀ (c : Thread nD τ) none Set.univ (m := oM) (r := colRect k.1 k.2) (S := Finset.univ) (Finset.subset_univ _)) $$ Ho; iintro Ho
  iapply (wp_store 𝒱₀ (c : Thread nD τ) none Set.univ (m := oM) (r := colRect k.1 k.2) (Mk := Finset.univ) (S := Finset.univ) (Finset.subset_univ _)) $$ Ho; iintro Ho
  rw [wp_ret]; imodintro
  isplitr [Hr]
  · isplitr; · iexact Hctx
    isplitl [Hxw]; · iexact Hxw
    isplitl [Ho]
    · iexists _
      isplitr
      swap
      · iexact Ho
      · ipureintro
        intro k' hk'
        rcases eq_or_ne k' k with rfl | hne
        · exact View.read_write_univ _ _
        · rw [read_other k k' hne]
          exact hf k' fun hm => (List.mem_cons.mp hm).elim hne hk'
    iexact HO
  · iexact Hr

theorem wp_fin (c : Dev nD) :
    iprop((ctx A K ∗ xw A c ∗ outAt A c keys ∗ owing c ∅) ∗ bigSep Finset.univ (sent (F := F) c 14))
      ⊢ runs c (seqs (fun k => fin oM c k.1 k.2) keys) (fun _ => iprop((ctx A K ∗ xw A c ∗ outAt A c [] ∗ owing c ∅) ∗ bigSep Finset.univ (ready (F := F) c 15))) :=
  wp_stage (fun k => fin oM c k.1 k.2) (sent c 14) (ready c 15) (fun l => iprop(ctx A K ∗ xw A c ∗ outAt A c l ∗ owing c ∅)) fun a l _ h => wp_fin1 A K c a l h

end Cert.Proof

end
-- ==== Proof.Ring.Slots.lean ====
/-
  The send and landing buffers split into the pieces and slots the copies take, and put together again.
-/
module

public import proofs.«01_k».proof.Proof.Ring.Stages

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

/-! ## A region of a buffer and a partition of it -/

section Any

variable {ℓ : Loc nD τ sig} {I : Type} [Fintype I] [DecidableEq I]

/-- Some contents of a region are some contents of each of its parts; -/
theorem any_split (U : Finset (Idx ℓ)) (P : I → Finset (Idx ℓ)) (hU : Finset.univ.biUnion P = U) (hd : ∀ t t', t ≠ t' → Disjoint (P t) (P t')) :
    iprop(∃ f : Buf (Elt F) ℓ, ℓ ↦[U]{fullShare} f) ⊢ (bigSep Finset.univ fun i => iprop(∃ f : Buf (Elt F) ℓ, ℓ ↦[P i]{fullShare} f) : sProp 𝕄) := by
  subst hU
  iintro ⟨%f, H⟩
  ihave H := (Entails.of_eq (pointsTo_biUnion (f := f) (q := fullShare) Finset.univ P fun t _ t' _ h => hd t t' h)) $$ H
  iapply (show (bigSep Finset.univ fun i => (ℓ ↦[P i]{fullShare} f : sProp 𝕄)) ⊢ bigSep Finset.univ fun i => iprop(∃ f : Buf (Elt F) ℓ, ℓ ↦[P i]{fullShare} f) from
    bigSep_mono fun i _ => show (ℓ ↦[P i]{fullShare} f : sProp 𝕄) ⊢ iprop(∃ f : Buf (Elt F) ℓ, ℓ ↦[P i]{fullShare} f) by iintro H; iexists f; iexact H)
  iexact H

/-- and the other way. -/
theorem any_join (U : Finset (Idx ℓ)) (P : I → Finset (Idx ℓ)) (hU : Finset.univ.biUnion P = U) (hd : ∀ t t', t ≠ t' → Disjoint (P t) (P t'))
    (i₀ : I) :
    (bigSep Finset.univ fun i => iprop(∃ f : Buf (Elt F) ℓ, ℓ ↦[P i]{fullShare} f) : sProp 𝕄) ⊢ iprop(∃ f : Buf (Elt F) ℓ, ℓ ↦[U]{fullShare} f) := by
  subst hU
  iintro H
  ihave H := (Entails.of_eq (BI.bigSep_univ_at (fun i => iprop(∃ f : Buf (Elt F) ℓ, ℓ ↦[P i]{fullShare} f)) i₀)) $$ H
  icases H with ⟨⟨%f₀, H₀⟩, H⟩
  haveI : Nonempty (Buf (Elt F) ℓ) := ⟨f₀⟩
  ihave H := (Entails.of_eq (BI.bigSep_univ_at (fun i => iprop(∃ f : Buf (Elt F) ℓ, ℓ ↦[P i]{fullShare} f)) i₀).symm) $$ [H₀ H]
  · isplitl [H₀]; · iexists f₀; iexact H₀
    iexact H
  ihave H := (BI.bigSep_exists_pi Finset.univ (fun (i : I) (f : Buf (Elt F) ℓ) => (ℓ ↦[P i]{fullShare} f : sProp 𝕄))) $$ H
  icases H with ⟨%fs, H⟩
  ihave H := (pointsTo_biUnion_join Finset.univ P fs f₀ fun t _ t' _ h => hd t t' h) $$ H
  icases H with ⟨%g, -, H⟩
  iexists g; iexact H

end Any

/-! ## The rectangles partition their buffers -/

theorem buf_cover : Finset.univ.biUnion (fun p : Fin 4 => (bufRect p).set) = (Finset.univ : Finset S4x128x256.Idx) :=
  Finset.eq_univ_iff_forall.mpr fun i => Finset.mem_biUnion.mpr ⟨i 0, Finset.mem_univ _, Rect.mem_set_unit.mpr (fun
    | 0 => ⟨le_refl _, Nat.lt_succ_self _⟩
    | 1 => ⟨Nat.zero_le _, (Nat.zero_add 128).symm ▸ (i 1).isLt⟩
    | 2 => ⟨Nat.zero_le _, (Nat.zero_add 256).symm ▸ (i 2).isLt⟩)⟩

theorem buf_apart (p p' : Fin 4) (h : p ≠ p') : Disjoint (bufRect p).set (bufRect p').set :=
  Finset.disjoint_left.mpr fun i hi hi' => by
    have h1 : p.val ≤ (i 0).val ∧ (i 0).val < p.val + 1 := Rect.mem_set_unit.mp hi 0
    have h2 : p'.val ≤ (i 0).val ∧ (i 0).val < p'.val + 1 := Rect.mem_set_unit.mp hi' 0
    exact h (Fin.ext (by omega))

theorem com_cover : Finset.univ.biUnion (fun y : Fin 4 × Fin 15 => (comRect y.2 y.1).set) = (Finset.univ : Finset S15x4x128x256.Idx) :=
  Finset.eq_univ_iff_forall.mpr fun i => Finset.mem_biUnion.mpr ⟨(i 1, i 0), Finset.mem_univ _, Rect.mem_set_unit.mpr (fun
    | 0 => ⟨le_refl _, Nat.lt_succ_self _⟩
    | 1 => ⟨le_refl _, Nat.lt_succ_self _⟩
    | 2 => ⟨Nat.zero_le _, (Nat.zero_add 128).symm ▸ (i 2).isLt⟩
    | 3 => ⟨Nat.zero_le _, (Nat.zero_add 256).symm ▸ (i 3).isLt⟩)⟩

theorem com_apart (y y' : Fin 4 × Fin 15) (h : y ≠ y') : Disjoint (comRect y.2 y.1).set (comRect y'.2 y'.1).set :=
  Finset.disjoint_left.mpr fun i hi hi' => by
    have h1 : y.2.val ≤ (i 0).val ∧ (i 0).val < y.2.val + 1 := Rect.mem_set_unit.mp hi 0
    have h2 : y'.2.val ≤ (i 0).val ∧ (i 0).val < y'.2.val + 1 := Rect.mem_set_unit.mp hi' 0
    have h3 : y.1.val ≤ (i 1).val ∧ (i 1).val < y.1.val + 1 := Rect.mem_set_unit.mp hi 1
    have h4 : y'.1.val ≤ (i 1).val ∧ (i 1).val < y'.1.val + 1 := Rect.mem_set_unit.mp hi' 1
    exact h (Prod.ext (Fin.ext (by omega)) (Fin.ext (by omega)))

/-- A partition seen through a view of the whole. -/
theorem cover_view {κ : Kind} {sp : Space} {s : Shape} {e : EltTy} (v : View sig κ sp s e) {I : Type} [Fintype I] [DecidableEq I] (r : I → Finset s.Idx)
    (h : Finset.univ.biUnion r = Finset.univ) : Finset.univ.biUnion (fun i => (r i).map v.emb) = v.set := by
  classical
  refine Finset.ext fun i => ?_
  unfold View.set
  rw [← h]
  simp only [Finset.mem_biUnion, Finset.mem_map, Finset.mem_univ, true_and]
  constructor
  · rintro ⟨t, y, hy, rfl⟩; exact ⟨y, ⟨t, hy⟩, rfl⟩
  · rintro ⟨y, ⟨t, hy⟩, rfl⟩; exact ⟨t, y, hy, rfl⟩

theorem bufV_set (d : Bool) (p : Fin 4) : (bufV d p).view.set = (bufRect p).set.map (bufM d).view.emb :=
  (set_buf d p).trans (View.set_slice (v := (bufM d).view) (bufRect p))
theorem comV_set (d : Bool) (s : Fin 15) (p : Fin 4) : (comV d s p).view.set = (comRect s p).set.map (comM d).view.emb :=
  (set_com d s p).trans (View.set_slice (v := (comM d).view) (comRect s p))

theorem bufV_cover (d : Bool) : Finset.univ.biUnion (fun p : Fin 4 => (bufV d p).view.set) = (bufM d).view.set :=
  (Finset.biUnion_congr rfl fun p _ => bufV_set d p).trans (cover_view (bufM d).view (fun p => (bufRect p).set) buf_cover)
theorem bufV_apart (d : Bool) (p p' : Fin 4) (h : p ≠ p') : Disjoint (bufV d p).view.set (bufV d p').view.set := by
  have := (Finset.disjoint_map (bufM d).view.emb).mpr (buf_apart p p' h)
  rwa [← bufV_set, ← bufV_set] at this
theorem comV_cover (d : Bool) : Finset.univ.biUnion (fun y : Fin 4 × Fin 15 => (comV d y.2 y.1).view.set) = (comM d).view.set := by
  have h1 := cover_view (comM d).view (fun y : Fin 4 × Fin 15 => (comRect y.2 y.1).set) com_cover
  rw [← h1]
  refine Finset.biUnion_congr rfl fun y _ => ?_
  exact comV_set d y.2 y.1
theorem comV_apart (d : Bool) (y y' : Fin 4 × Fin 15) (h : y ≠ y') : Disjoint (comV d y.2 y.1).view.set (comV d y'.2 y'.1).view.set := by
  have := (Finset.disjoint_map (comM d).view.emb).mpr (com_apart y y' h)
  rwa [← comV_set, ← comV_set] at this

/-! ## The buffers and their pieces -/

/-- A whole send buffer at some contents. -/
def bufWhole (c : Dev nD) (d : Bool) : sProp 𝕄 :=
  iprop(∃ f : Buf (Elt F) ((bufM d).view.loc (c : Thread nD τ)), (bufM d).view.loc (c : Thread nD τ) ↦[(bufM d).view.set]{fullShare} f)

theorem buf_split (c : Dev nD) (d : Bool) : bufWhole (F := F) c d ⊢ bigSep Finset.univ fun p : Fin 4 => bufAny (F := F) c (d, p) :=
  any_split (F := F) (ℓ := (bufM d).view.loc (c : Thread nD τ)) (bufM d).view.set (fun p : Fin 4 => (bufV d p).view.set) (bufV_cover d) (bufV_apart d)
theorem buf_join (c : Dev nD) (d : Bool) : (bigSep Finset.univ fun p : Fin 4 => bufAny (F := F) c (d, p)) ⊢ bufWhole (F := F) c d :=
  any_join (F := F) (ℓ := (bufM d).view.loc (c : Thread nD τ)) (bufM d).view.set (fun p : Fin 4 => (bufV d p).view.set) (bufV_cover d) (bufV_apart d) 0
theorem com_split (c : Dev nD) (d : Bool) : comAny (F := F) c d ⊢ bigSep Finset.univ fun p : Fin 4 => bigSep Finset.univ fun s : Fin 15 => slotAny (F := F) c (s, (d, p)) := by
  rw [← bigSep_univ_prod (fun y : Fin 4 × Fin 15 => slotAny (F := F) c (y.2, (d, y.1)))]
  exact any_split (F := F) (ℓ := (comM d).view.loc (c : Thread nD τ)) (comM d).view.set (fun y : Fin 4 × Fin 15 => (comV d y.2 y.1).view.set) (comV_cover d) (comV_apart d)
theorem com_join (c : Dev nD) (d : Bool) : (bigSep Finset.univ fun p : Fin 4 => bigSep Finset.univ fun s : Fin 15 => slotAny (F := F) c (s, (d, p))) ⊢ comAny (F := F) c d := by
  rw [← bigSep_univ_prod (fun y : Fin 4 × Fin 15 => slotAny (F := F) c (y.2, (d, y.1)))]
  exact any_join (F := F) (ℓ := (comM d).view.loc (c : Thread nD τ)) (comM d).view.set (fun y : Fin 4 × Fin 15 => (comV d y.2 y.1).view.set) (comV_cover d) (comV_apart d) (0, 0)

/-- A product over the pieces is one over each direction's. -/
theorem bigSep_keys (Φ : Key → sProp 𝕄) :
    bigSep Finset.univ Φ = iprop((bigSep Finset.univ fun p : Fin 4 => Φ (false, p)) ∗ bigSep Finset.univ fun p : Fin 4 => Φ (true, p)) := by
  rw [bigSep_univ_prod, bigSep_univ_eq_bigSepL [false, true] (by decide) (by decide), bigSepL_cons_cons, bigSepL_singleton]
  rfl

end Cert.Proof

end
-- ==== Proof.Ring.Prologue.lean ====
/-
  What comes before the ring: the two signals hand the device's landing buffers to the neighbours that copy into them,
  the operands are copied to scratch, and the wait brings the neighbours' landing buffers.
-/
module

public import proofs.«01_k».proof.Proof.Ring.Slots
public import Idealize.ShloMosaic.Lib.Pipeline.Value

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (A : Ops F) (K : Dev nD × (Unit ⊕ (Key ⊕ Slot)) → ℕ)

abbrev xM : Memref sig .tc .vmem S2048x128 .bf16 := Memref.whole cc0_stg0_0
abbrev wM : Memref sig .tc .vmem S128x2048 .bf16 := Memref.whole cc0_stg1_0

theorem off_zero : (![0, 0] : Fin 2 → Nat) = fun _ => 0 := funext fun a => by fin_cases a <;> rfl

abbrev xRect : Rect S2048x128 := Rect.unit (s := S2048x128) ![0, 0] S2048x128.size inb_S2048x128_S2048x128_0_0
abbrev wRect : Rect S128x2048 := Rect.unit (s := S128x2048) ![0, 0] S128x2048.size inb_S128x2048_S128x2048_0_0

/-- The copies of the operands to scratch are the operands. -/
theorem copy_x (f : (cc0_scratch0 : Ref sig .tc).ty.Contents (Elt F)) (v : Vec F S2048x128 .bf16) :
    (xbM.access xRect).write (Elt F) f (shapeCast S2048x128 (shapeCast S2048x128 (xM.view.readAt (Elt F) xRect.toLoadRect v) shapeCasts_S2048x128_S2048x128
      : FVec F S2048x128 .bf16) shapeCasts_S2048x128_S2048x128) Finset.univ = v := by
  rw [show xM.view.readAt (Elt F) xRect.toLoadRect v = v from Memref.readAt_unit_zero (Elt F) cc0_stg0_0 off_zero _ v]
  refine (Memref.write_access_unit_zero_univ (Elt F) cc0_scratch0 off_zero _ f _).trans ?_
  exact (shapeCast_self _ _).trans (shapeCast_self _ _)
theorem copy_w (f : (cc0_scratch1 : Ref sig .tc).ty.Contents (Elt F)) (v : Vec F S128x2048 .bf16) :
    (wbM.access wRect).write (Elt F) f (shapeCast S128x2048 (shapeCast S128x2048 (wM.view.readAt (Elt F) wRect.toLoadRect v) shapeCasts_S128x2048_S128x2048
      : FVec F S128x2048 .bf16) shapeCasts_S128x2048_S128x2048) Finset.univ = v := by
  rw [show wM.view.readAt (Elt F) wRect.toLoadRect v = v from Memref.readAt_unit_zero (Elt F) cc0_stg1_0 off_zero _ v]
  refine (Memref.write_access_unit_zero_univ (Elt F) cc0_scratch1 off_zero _ f _).trans ?_
  exact (shapeCast_self _ _).trans (shapeCast_self _ _)

/-- The operands in the staging buffers. -/
def staged (c : Dev nD) : sProp 𝕄 :=
  iprop((xM.view.loc (c : Thread nD τ) ↦[Finset.univ]{fullShare} (A.x c)) ∗ (wM.view.loc (c : Thread nD τ) ↦[Finset.univ]{fullShare} (A.w c)))

/-- The scratch of the operands, at any contents. -/
def scratch (c : Dev nD) : sProp 𝕄 :=
  iprop((∃ f : Buf (Elt F) (xbM.view.loc (c : Thread nD τ)), xbM.view.loc (c : Thread nD τ) ↦[Finset.univ]{fullShare} f)
    ∗ (∃ f : Buf (Elt F) (wbM.view.loc (c : Thread nD τ)), wbM.view.loc (c : Thread nD τ) ↦[Finset.univ]{fullShare} f))

theorem pay_bar (c : Dev nD) (d : Bool) : comAny (F := F) c d ⊢ (Rd A).payload (barC (nbr (!d) c)) 0 d := by
  refine BI.Entails.trans ?_ (Entails.of_eq (payload_cell A (nbr (!d) c) (.inl ()) 0 d).symm)
  show _ ⊢ comAny (nbr d (nbr (!d) c)) d
  rw [nbr_nbr]

theorem pay_barF (c : Dev nD) : comAny (F := F) c false ⊢ (Rd A).payload (((nbr true c : Dev nD) : Thread nD τ), SemLoc.reg barrier0) 0 false := pay_bar A c false
theorem pay_barT (c : Dev nD) : comAny (F := F) c true ⊢ (Rd A).payload (((nbr false c : Dev nD) : Thread nD τ), SemLoc.reg barrier0) 0 true := pay_bar A c true

theorem wp_prologue (c : Dev nD) (W : Waits sig Unit) :
    iprop(ctx A K ∗ owes (c : Thread nD τ) (O₀ c) W ∗ staged A c ∗ scratch (F := F) c ∗ (comAny (F := F) c false ∗ comAny (F := F) c true)
        ∗ (dutyTok ER (barC (nbr true c)) 0 false ∗ dutyTok ER (barC (nbr false c)) 0 true)
        ∗ atPos ER (barC c) 0 ∅ 0 ∗ cred (tallyAt (barC c) () 2))
      ⊢ runs c (prologue xM wM c) (fun _ => iprop(owing c Finset.univ ∗ staged A c ∗ xw A c
          ∗ (comAny (F := F) (nbr false c) false ∗ comAny (F := F) (nbr true c) true) ∗ atPos ER (barC c) 1 ∅ 0)) := by
  unfold prologue runs staged scratch
  simp only [semSignalWord, semWaitWord, Prog.lift, Prog.bind_op, Prog.bind_ret]
  iintro ⟨#Hctx, HO, ⟨Hx, Hw⟩, ⟨⟨%fx, Hxb⟩, ⟨%fw, Hwb⟩⟩, ⟨HcF, HcT⟩, ⟨HtF, HtT⟩, Hat, Hcr⟩
  iapply (Rounds.wp_signal 𝒱₀ ER (Rd A) (c : Thread nD τ) none (dst := ((nbr true c : Dev nD) : Thread nD τ)) (κ := K (nbr true c, .inl ()))
      (d := false) (by show false ∈ (Rd A).duties (barC (nbr true c)) 0; rw [duties_bar]; exact Finset.mem_univ _) ((amount_cell A (nbr true c) (.inl ()) 0 false).trans (by decide)) () (O₁ c) rfl)
    $$ [HO HtF HcF]
  · isplitr; · iapply (ctx_inv A K (nbr true c) (.inl ())); iexact Hctx
    isplitl [HO]; · iexact HO
    isplitl [HtF]; · iexact HtF
    isplitl [HcF]; · iapply (pay_barF A c); iexact HcF
    iapply (ctx_reached A K (nbr true c) (.inl ())); iexact Hctx
  iintro HO
  iapply (Rounds.wp_signal 𝒱₀ ER (Rd A) (c : Thread nD τ) none (dst := ((nbr false c : Dev nD) : Thread nD τ)) (κ := K (nbr false c, .inl ()))
      (d := true) (by show true ∈ (Rd A).duties (barC (nbr false c)) 0; rw [duties_bar]; exact Finset.mem_univ _) ((amount_cell A (nbr false c) (.inl ()) 0 true).trans (by decide)) () (Ow c Finset.univ) rfl)
    $$ [HO HtT HcT]
  · isplitr; · iapply (ctx_inv A K (nbr false c) (.inl ())); iexact Hctx
    isplitl [HO]; · iexact HO
    isplitl [HtT]; · iexact HtT
    isplitl [HcT]; · iapply (pay_barT A c); iexact HcT
    iapply (ctx_reached A K (nbr false c) (.inl ())); iexact Hctx
  iintro HO
  iapply (wp_load 𝒱₀ (c : Thread nD τ) none Set.univ (m := xM) (S := Finset.univ) (Finset.subset_univ _)) $$ Hx; iintro Hx
  iapply (wp_load 𝒱₀ (c : Thread nD τ) none Set.univ (m := xbM) (S := Finset.univ) (Finset.subset_univ _)) $$ Hxb; iintro Hxb
  iapply (wp_store 𝒱₀ (c : Thread nD τ) none Set.univ (m := xbM) (r := xRect) (Mk := Finset.univ) (S := Finset.univ) (Finset.subset_univ _)) $$ Hxb; iintro Hxb
  iapply (wp_load 𝒱₀ (c : Thread nD τ) none Set.univ (m := wM) (S := Finset.univ) (Finset.subset_univ _)) $$ Hw; iintro Hw
  iapply (wp_load 𝒱₀ (c : Thread nD τ) none Set.univ (m := wbM) (S := Finset.univ) (Finset.subset_univ _)) $$ Hwb; iintro Hwb
  iapply (wp_store 𝒱₀ (c : Thread nD τ) none Set.univ (m := wbM) (r := wRect) (Mk := Finset.univ) (S := Finset.univ) (Finset.subset_univ _)) $$ Hwb; iintro Hwb
  rw [copy_x, copy_w]
  iapply (Rounds.wp_wait_rest_token 𝒱₀ ER (Rd A) (c : Thread nD τ) none (κ := K (c, .inl ())) (sm := csem (.inl ()))
      (wpE_semWait_eq 𝒱₀ (c : Thread nD τ) none Set.univ) (Set.mem_univ _) () (O := Ow c Finset.univ) (W := W) (R := 0) (m := 0) (T := ∅)
      (by rw [expect_bar]; decide)) $$ [Hcr HO Hat]
  · isplitr; · iapply (ctx_inv A K c (.inl ())); iexact Hctx
    isplitl [Hcr]; · iexact Hcr
    isplitl [HO]; · iexact HO
    isplitr; · iapply (ctx_mayWait A K c (.inl ()) Finset.univ fun x _ => Nat.lt_of_lt_of_le Nat.one_lt_two (Nat.le_add_right 2 x.1.val)); iexact Hctx
    iexact Hat
  iintro ⟨HO, Hat, -, Hpay⟩
  ihave Hp := (Entails.of_eq (rest_bar A c)) $$ Hpay
  rw [wp_ret]; imodintro
  isplitl [HO]; · unfold owing; iexists _; iexact HO
  isplitl [Hx Hw]
  · isplitl [Hx]; · iexact Hx
    iexact Hw
  isplitl [Hxb Hwb]
  · unfold xw
    isplitl [Hxb]; · iexact Hxb
    iexact Hwb
  isplitl [Hp]; · iexact Hp
  iexact Hat

end Cert.Proof

end
-- ==== Proof.Ring.Body.lean ====
/-
  The body on device `c`, from what the launch deals it to the result stored, every semaphore at zero again.
-/
module

public import proofs.«01_k».proof.Proof.Ring.Prologue

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (A : Ops F) (K : Dev nD × (Unit ⊕ (Key ⊕ Slot)) → ℕ)

/-- A product of things each made with the help of something persistent. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Over the pieces and steps. -/
abbrev allKeys (Φ : Key → sProp 𝕄) : sProp 𝕄 := bigSep Finset.univ Φ
abbrev allSlots (Φ : Slot → sProp 𝕄) : sProp 𝕄 := bigSep Finset.univ fun k : Key => bigSep Finset.univ fun s : Fin 15 => Φ (s, k)

/-- What device `c` holds of the ring's ghost state: its positions, and the tokens of the duties it pays. -/
def mine (c : Dev nD) : sProp 𝕄 :=
  iprop(atPos ER (barC c) 0 ∅ 0 ∗ allKeys (F := F) (fun k => atPos ER (sndC c k) 0 ∅ 0) ∗ allSlots (F := F) (fun x => atPos ER (rcvC c x) 0 ∅ 0)
    ∗ (dutyTok ER (barC (nbr true c)) 0 false ∗ dutyTok ER (barC (nbr false c)) 0 true)
    ∗ allSlots (F := F) (fun x => dutyTok ER (sndC c x.2) x.1.val false) ∗ allSlots (F := F) (fun x => dutyTok ER (rcvC (nbr x.2.1 c) x) 0 false))

/-- Its credits: two units at its barrier, a piece at each arrival cell. -/
def creds (c : Dev nD) : sProp 𝕄 :=
  iprop(cred (tallyAt (barC c) () 2) ∗ allSlots (F := F) (fun x => cred (tallyAt (rcvC c x) () N)))

/-! ## Into the ring -/

theorem bufs_split (c : Dev nD) : iprop(bufWhole (F := F) c false ∗ bufWhole (F := F) c true) ⊢ allKeys (bufAny (F := F) c) := by
  unfold allKeys; rw [bigSep_keys]; exact BI.sep_mono (buf_split c false) (buf_split c true)
theorem bufs_join (c : Dev nD) : allKeys (bufAny (F := F) c) ⊢ iprop(bufWhole (F := F) c false ∗ bufWhole (F := F) c true) := by
  unfold allKeys; rw [bigSep_keys]; exact BI.sep_mono (buf_join c false) (buf_join c true)
theorem slots_split (c : Dev nD) : iprop(comAny (F := F) (nbr false c) false ∗ comAny (F := F) (nbr true c) true)
    ⊢ allSlots (fun x => slotAny (F := F) (nbr x.2.1 c) x) := by
  unfold allSlots; rw [bigSep_keys]; exact BI.sep_mono (com_split _ false) (com_split _ true)
theorem slots_join (c : Dev nD) : allSlots (slotAny (F := F) c) ⊢ iprop(comAny (F := F) c false ∗ comAny (F := F) c true) := by
  unfold allSlots; rw [bigSep_keys]; exact BI.sep_mono (com_join c false) (com_join c true)

theorem all_reached (c : Dev nD) : ctx A K ⊢ allKeys (F := F) (fun k => reached ER (sndC c k) 0) :=
  (BI.bigSep_of_persistent Finset.univ (ctx A K)).trans (bigSep_mono fun k _ => ctx_reached A K c (.inr (.inl k)))

theorem ready_intro (c : Dev nD) :
    iprop(ctx A K ∗ (bufWhole (F := F) c false ∗ bufWhole (F := F) c true) ∗ (comAny (F := F) (nbr false c) false ∗ comAny (F := F) (nbr true c) true)
        ∗ allKeys (F := F) (fun k => atPos ER (sndC c k) 0 ∅ 0) ∗ allSlots (F := F) (fun x => atPos ER (rcvC c x) 0 ∅ 0)
        ∗ allSlots (F := F) (fun x => dutyTok ER (sndC c x.2) x.1.val false) ∗ allSlots (F := F) (fun x => dutyTok ER (rcvC (nbr x.2.1 c) x) 0 false)
        ∗ allSlots (F := F) (fun x => cred (tallyAt (rcvC c x) () N)))
      ⊢ bigSep Finset.univ (ready (F := F) c 0) := by
  unfold ready kits rkits gots
  simp only [finFrom_zero, bigSep_finUpTo_zero, bigSep_sep']
  iintro ⟨#Hctx, Hb, Hs, HatS, HatR, HtS, HtR, Hcr⟩
  isplitl [Hb]; · iapply (bufs_split c); iexact Hb
  isplitl [HatS]; · iexact HatS
  isplitr; · iapply (all_reached A K c); iexact Hctx
  isplitl [Hs HtS HtR]
  · isplitl [Hs]; · iapply (slots_split c); iexact Hs
    isplitl [HtS]; · iexact HtS
    iexact HtR
  isplitl [HatR Hcr]
  · isplitl [HatR]; · iexact HatR
    iexact Hcr
  isplitr
  · iapply (BI.bigSep_of_persistent (Finset.univ : Finset Key) (iprop(emp) : sProp 𝕄))
    iempintro
  iapply (BI.bigSep_of_persistent (Finset.univ : Finset Key) (iprop(emp) : sProp 𝕄))
  iempintro

/-! ## Out of the ring -/

theorem duties_done (c : Dev nD) (k) (R : ℕ) (h : ∀ r, R ≤ r → dutiesOf (some k) r = ∅) (r : ℕ) (hr : R ≤ r) : (Rd A).duties (cell c k) r = ∅ :=
  (duties_cell A c k r).trans (h r hr)

theorem close (c : Dev nD) (k) (R : ℕ) (h : ∀ r, R ≤ r → dutiesOf (some k) r = ∅) :
    iprop(ctx A K ∗ atPos ER (cell c k) R ∅ 0) ⊢ iprop(|={Set.univ}=> semVal (cell c k) 0) := by
  refine BI.Entails.trans (sep_mono_left (ctx_inv A K c k)) ?_
  exact Rounds.cell_close ER (Rd A) (Set.mem_univ (K (c, k))) (fun h => h) (R := R) (duties_done A c k R h)

theorem close_bar (c : Dev nD) : iprop(ctx A K ∗ atPos ER (barC c) 1 ∅ 0) ⊢ iprop(|={Set.univ}=> semVal (barC c) 0) :=
  close A K c (.inl ()) 1 fun r hr => if_neg (Nat.ne_of_gt hr)

theorem close_snd (c : Dev nD) : iprop(ctx A K ∗ allKeys (F := F) (fun k => atPos ER (sndC c k) 15 ∅ 0)) ⊢ iprop(|={Set.univ}=> allKeys (F := F) fun k => semVal (sndC c k) 0) :=
  (bigSep_with fun k _ => close A K c (.inr (.inl k)) 15 fun r hr => if_neg (Nat.not_lt.mpr hr)).trans (bigSep_fupd _ _)

theorem close_rcv (c : Dev nD) : iprop(ctx A K ∗ allSlots (F := F) (fun x => atPos ER (rcvC c x) 1 ∅ 0)) ⊢ iprop(|={Set.univ}=> allSlots (F := F) fun x => semVal (rcvC c x) 0) :=
  (bigSep_with fun k _ => (bigSep_with fun s _ => close A K c (.inr (.inr (s, k))) 1 fun r hr => if_neg (Nat.ne_of_gt hr)).trans (bigSep_fupd _ _)).trans (bigSep_fupd _ _)

theorem bigSep_univ_slot (Φ : Slot → sProp 𝕄) : bigSep Finset.univ Φ = allSlots (F := F) Φ := by
  rw [bigSep_univ_equiv (Equiv.prodComm Key (Fin 15)) Φ, bigSep_univ_prod]
  rfl

theorem ownSems0_eq (c : Dev nD) : (Pipeline.ownSems0 (Ix := Unit) (Name := ℕ) (U := UU) (Lvl := ℕ) (Val := Elt F) (τ := τ) osem c : sProp 𝕄)
    = iprop(allKeys (F := F) (fun k => semVal (sndC c k) 0) ∗ allSlots (F := F) (fun x => semVal (rcvC c x) 0)) := by
  unfold Pipeline.ownSems0
  rw [bigSep_univ_sum, bigSep_univ_slot]
  rfl

theorem unscopedSems0_eq (c : Dev nD) : (unscopedSems0 c : sProp 𝕄) = semVal (barC c) 0 := by
  unfold unscopedSems0; rw [bigSep_eq_bigSepL_of_eq [SemLoc.reg barrier0] (by decide) (by decide)]; rfl

/-- The body's end: the semaphores at zero, the buffers whole. -/
theorem ready_elim (c : Dev nD) :
    iprop(ctx A K ∗ bigSep Finset.univ (ready (F := F) c 15) ∗ atPos ER (barC c) 1 ∅ 0)
      ⊢ iprop(|={Set.univ}=> iprop(unscopedSems0 c ∗ Pipeline.ownSems0 (Ix := Unit) (Name := ℕ) (U := UU) (Lvl := ℕ) (Val := Elt F) (τ := τ) osem c
          ∗ (bufWhole (F := F) c false ∗ bufWhole (F := F) c true) ∗ (comAny (F := F) c false ∗ comAny (F := F) c true))) := by
  rw [ownSems0_eq, unscopedSems0_eq]
  unfold ready gots
  simp only [finUpTo_self, bigSep_sep']
  iintro ⟨#Hctx, ⟨Hb, HatS, -, -, -, Hs, HatR⟩, Hat⟩
  imod (close_bar A K c) $$ [Hat] with HzB
  · isplitr; · iexact Hctx
    iexact Hat
  imod (close_snd A K c) $$ [HatS] with HzS
  · isplitr; · iexact Hctx
    iexact HatS
  imod (close_rcv A K c) $$ [HatR] with HzR
  · isplitr; · iexact Hctx
    iexact HatR
  imodintro
  isplitl [HzB]; · iexact HzB
  isplitl [HzS HzR]
  · isplitl [HzS]; · iexact HzS
    iexact HzR
  isplitl [Hb]; · iapply (bufs_join c); iexact Hb
  iapply (slots_join c); iexact Hs

/-! ## The scoped buffers -/

theorem scoped_eq (c : Dev nD) :
    (Pipeline.scopedRest (Ix := Unit) (Name := ℕ) (U := UU) (Lvl := ℕ) (Val := Elt F) spec0 c : sProp 𝕄)
      = iprop((∃ f : Buf (Elt F) (xbM.view.loc (c : Thread nD τ)), xbM.view.loc (c : Thread nD τ) ↦[Finset.univ]{fullShare} f)
        ∗ (∃ f : Buf (Elt F) (wbM.view.loc (c : Thread nD τ)), wbM.view.loc (c : Thread nD τ) ↦[Finset.univ]{fullShare} f)
        ∗ bufWhole (F := F) c false ∗ bufWhole (F := F) c true ∗ comAny (F := F) c false ∗ comAny (F := F) c true) := by
  rw [scopedRest0_eq]
  unfold bufWhole comAny
  rw [show (bufM false).view.set = Finset.univ from View.set_whole _, show (bufM true).view.set = Finset.univ from View.set_whole _,
    show (comM false).view.set = Finset.univ from View.set_whole _, show (comM true).view.set = Finset.univ from View.set_whole _]
  rfl

/-! ## The result -/

/-- The piece a column is in, and an element's place in its piece. -/
def keyOf (j : ℕ) : Key := (decide (1024 ≤ j), Fin.ofNat 4 (j / 256))
def inPiece (i : S128x2048.Idx) : S128x256.Idx
  | 0 => i 0
  | 1 => ⟨(i 1).val % 256, Nat.mod_lt _ (by decide)⟩

/-- The result's block on device `c`. -/
def outV (c : Dev nD) : Vec F S128x2048 .f32 := fun i => res A (keyOf (i 1).val) c (inPiece i)

theorem col_keyOf (j : ℕ) (h : j < 2048) : col (keyOf j).1 (keyOf j).2 + j % 256 = j := by
  unfold keyOf
  by_cases h1 : 1024 ≤ j
  · rw [decide_eq_true h1]; show 1024 + 256 * (j / 256 % 4) + j % 256 = j; omega
  · rw [decide_eq_false h1]; show 256 * (j / 256 % 4) + j % 256 = j; omega

theorem emb_inPiece (i : S128x2048.Idx) : (colRect (keyOf (i 1).val).1 (keyOf (i 1).val).2).emb (inPiece i) = i :=
  funext fun
    | 0 => Fin.ext (by
      show 0 + 1 * (i 0).val = (i 0).val
      omega)
    | 1 => Fin.ext (by
      show col (keyOf (i 1).val).1 (keyOf (i 1).val).2 + 1 * ((i 1).val % 256) = (i 1).val
      rw [Nat.one_mul]; exact col_keyOf _ (i 1).isLt)

theorem out_eq (c : Dev nD) (f : oM.view.ty.Contents (Elt F)) (h : ∀ k : Key, k ∉ [] → (oM.access (colRect k.1 k.2)).read (Elt F) f = res A k c) :
    f = outV A c := funext fun i => by
  have h1 := congrFun (h (keyOf (i 1).val) List.not_mem_nil) (inPiece i)
  refine Eq.trans ?_ h1
  show f i = f ((colRect (keyOf (i 1).val).1 (keyOf (i 1).val).2).emb (inPiece i))
  rw [emb_inPiece]

/-! ## The body -/

def outAny (c : Dev nD) : sProp 𝕄 := iprop(∃ f : Buf (Elt F) (oM.view.loc (c : Thread nD τ)), oM.view.loc (c : Thread nD τ) ↦[Finset.univ]{fullShare} f)

/-- What the body ends with besides its windows. -/
def atEnd (c : Dev nD) : sProp 𝕄 :=
  iprop(unscopedSems0 c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) spec0 c)

/-- Beside the ring: the staged operands, the barrier's position, the result's buffer. -/
def beside (c : Dev nD) : sProp 𝕄 := iprop(staged A c ∗ atPos ER (barC c) 1 ∅ 0 ∗ outAny (F := F) c)

theorem runs_frame {c : Dev nD} {p : KP F PUnit} {P P' R : sProp 𝕄} (h : P ⊢ runs c p (fun _ => P')) : iprop(P ∗ R) ⊢ runs c p (fun _ => iprop(P' ∗ R)) :=
  BI.Entails.trans (sep_mono_left h) (wp_frame_r _ _ _)

theorem runs_end {c : Dev nD} {p : KP F PUnit} {P P' Q : sProp 𝕄} (h : P ⊢ runs c p (fun _ => P')) (hQ : P' ⊢ iprop(|={Set.univ}=> Q)) : P ⊢ runs c p (fun _ => Q) :=
  BI.Entails.trans h (BI.Entails.trans (wp_mono _ _ _ fun _ => hQ) (wp_fupd _ _ _ _ _))

theorem regather (c : Dev nD) :
    iprop((owing c Finset.univ ∗ staged A c ∗ xw A c ∗ (comAny (F := F) (nbr false c) false ∗ comAny (F := F) (nbr true c) true) ∗ atPos ER (barC c) 1 ∅ 0)
        ∗ (ctx A K ∗ outAny (F := F) c ∗ (bufWhole (F := F) c false ∗ bufWhole (F := F) c true)
      ∗ allKeys (F := F) (fun k => atPos ER (sndC c k) 0 ∅ 0) ∗ allSlots (F := F) (fun x => atPos ER (rcvC c x) 0 ∅ 0)
      ∗ allSlots (F := F) (fun x => dutyTok ER (sndC c x.2) x.1.val false) ∗ allSlots (F := F) (fun x => dutyTok ER (rcvC (nbr x.2.1 c) x) 0 false)
      ∗ allSlots (F := F) (fun x => cred (tallyAt (rcvC c x) () N))))
      ⊢ iprop(shared A K c (beside A c) Finset.univ ∗ bigSep Finset.univ (ready (F := F) c 0)) := by
  unfold shared beside
  iintro ⟨⟨HO, Hst, Hxw, Hcom, Hat⟩, #Hctx, Hout, Hb, Hrest⟩
  isplitl [HO Hst Hxw Hat Hout]
  · isplitr; · iexact Hctx
    isplitl [Hxw]; · iexact Hxw
    isplitl [Hst Hat Hout]
    · isplitl [Hst]; · iexact Hst
      isplitl [Hat]; · iexact Hat
      iexact Hout
    iexact HO
  iapply (ready_intro A K c)
  isplitr; · iexact Hctx
  isplitl [Hb]; · iexact Hb
  isplitl [Hcom]; · iexact Hcom
  iexact Hrest

theorem finish (c : Dev nD) :
    iprop(((ctx A K ∗ xw A c ∗ outAt A c [] ∗ owing c ∅) ∗ bigSep Finset.univ (ready (F := F) c 15)) ∗ (staged A c ∗ atPos ER (barC c) 1 ∅ 0))
      ⊢ iprop(|={Set.univ}=> iprop(atEnd (F := F) c ∗ owing c ∅ ∗ staged A c ∗ oM.view.loc (c : Thread nD τ) ↦[Finset.univ]{fullShare} outV A c)) := by
  unfold atEnd outAt xw
  rw [scoped_eq]
  iintro ⟨⟨⟨#Hctx, ⟨Hx, Hw⟩, ⟨%f, %hf, Hout⟩, HO⟩, Hr⟩, Hst, Hat⟩
  imod (ready_elim A K c) $$ [Hr Hat] with ⟨Hu, Ho, ⟨HbF, HbT⟩, HcF, HcT⟩
  · isplitr; · iexact Hctx
    isplitl [Hr]; · iexact Hr
    iexact Hat
  imodintro
  isplitl [Hu Ho Hx Hw HbF HbT HcF HcT]
  · isplitl [Hu]; · iexact Hu
    isplitl [Ho]; · iexact Ho
    isplitl [Hx]; · iexists _; iexact Hx
    isplitl [Hw]; · iexists _; iexact Hw
    isplitl [HbF]; · iexact HbF
    isplitl [HbT]; · iexact HbT
    isplitl [HcF]; · iexact HcF
    iexact HcT
  isplitl [HO]; · iexact HO
  isplitl [Hst]; · iexact Hst
  rw [← out_eq A c f hf]
  iexact Hout

theorem enter (c : Dev nD) (W : Waits sig Unit) :
    iprop(ctx A K ∗ mine (F := F) c ∗ creds (F := F) c ∗ Pipeline.scopedRest (Ix := Unit) (Name := ℕ) (U := UU) (Lvl := ℕ) (Val := Elt F) spec0 c
        ∗ owes (c : Thread nD τ) (O₀ c) W ∗ staged A c ∗ outAny (F := F) c)
      ⊢ runs c (prologue xM wM c) (fun _ => iprop(shared A K c (beside A c) Finset.univ ∗ bigSep Finset.univ (ready (F := F) c 0))) := by
  rw [scoped_eq]
  unfold mine creds
  iintro ⟨#Hctx, ⟨HatB, HatS, HatR, HtB, HtS, HtR⟩, ⟨HcB, HcR⟩, ⟨Hx, Hw, HbF, HbT, HcF, HcT⟩, HO, Hst, Hout⟩
  iapply (runs_frame (R := iprop(ctx A K ∗ outAny (F := F) c ∗ (bufWhole (F := F) c false ∗ bufWhole (F := F) c true)
      ∗ allKeys (F := F) (fun k => atPos ER (sndC c k) 0 ∅ 0) ∗ allSlots (F := F) (fun x => atPos ER (rcvC c x) 0 ∅ 0)
      ∗ allSlots (F := F) (fun x => dutyTok ER (sndC c x.2) x.1.val false) ∗ allSlots (F := F) (fun x => dutyTok ER (rcvC (nbr x.2.1 c) x) 0 false)
      ∗ allSlots (F := F) (fun x => cred (tallyAt (rcvC c x) () N)))) (wp_prologue A K c W) |>.trans
    (wp_mono _ _ _ fun _ => regather A K c))
  isplitl [HO Hst Hx Hw HcF HcT HtB HatB HcB]
  · isplitr; · iexact Hctx
    isplitl [HO]; · iexact HO
    isplitl [Hst]; · iexact Hst
    isplitl [Hx Hw]
    · unfold scratch
      isplitl [Hx]; · iexact Hx
      iexact Hw
    isplitl [HcF HcT]
    · isplitl [HcF]; · iexact HcF
      iexact HcT
    isplitl [HtB]; · iexact HtB
    isplitl [HatB]; · iexact HatB
    iexact HcB
  isplitr; · iexact Hctx
  isplitl [Hout]; · iexact Hout
  isplitl [HbF HbT]
  · isplitl [HbF]; · iexact HbF
    iexact HbT
  isplitl [HatS]; · iexact HatS
  isplitl [HatR]; · iexact HatR
  isplitl [HtS]; · iexact HtS
  isplitl [HtR]; · iexact HtR
  iexact HcR

theorem leave (c : Dev nD) :
    between A K c (beside A c) 14 ⊢ runs c (seqs (fun k => fin oM c k.1 k.2) keys)
      (fun _ => iprop(atEnd (F := F) c ∗ owing c ∅ ∗ staged A c ∗ oM.view.loc (c : Thread nD τ) ↦[Finset.univ]{fullShare} outV A c)) := by
  refine BI.Entails.trans ?_ (runs_end (runs_frame (R := iprop(staged A c ∗ atPos ER (barC c) 1 ∅ 0)) (wp_fin A K c)) (finish A K c))
  unfold between shared beside outAny
  rw [rem_last]
  show (_ : sProp 𝕄) ⊢ (_ : sProp 𝕄)
  iintro ⟨⟨#Hctx, Hxw, ⟨Hst, Hat, ⟨%f, Hout⟩⟩, HO⟩, Hs⟩
  isplitr [Hst Hat]
  · isplitr [Hs]
    · isplitr; · iexact Hctx
      isplitl [Hxw]; · iexact Hxw
      isplitl [Hout]
      · unfold outAt
        iexists f
        isplitr; · ipureintro; exact fun k hk => absurd (mem_keys k) hk
        iexact Hout
      iexact HO
    iexact Hs
  isplitl [Hst]; · iexact Hst
  iexact Hat

theorem spec_runs (c : Dev nD) (Q : PUnit → sProp 𝕄) :
    runs c (spec xM wM oM) Q = runs c (prologue xM wM c >>= fun _ => seqs (fun k => hop0 c k.1 k.2) keys >>= fun _ =>
      seqs (fun s => seqs (fun k => hop c s k.1 k.2) keys) (List.finRange 14) >>= fun _ => seqs (fun k => fin oM c k.1 k.2) keys) Q := by
  unfold runs spec
  simp only [Prog.lift, Prog.bind_op, Prog.bind_ret, wp_deviceId]

theorem wp_spec (c : Dev nD) (W : Waits sig Unit) :
    iprop(ctx A K ∗ mine (F := F) c ∗ creds (F := F) c ∗ Pipeline.scopedRest (Ix := Unit) (Name := ℕ) (U := UU) (Lvl := ℕ) (Val := Elt F) spec0 c
        ∗ owes (c : Thread nD τ) (O₀ c) W ∗ staged A c ∗ outAny (F := F) c)
      ⊢ runs c (spec xM wM oM) (fun _ => iprop(atEnd (F := F) c ∗ owing c ∅ ∗ staged A c ∗ oM.view.loc (c : Thread nD τ) ↦[Finset.univ]{fullShare} outV A c)) := by
  rw [spec_runs]
  exact runs_bind (enter A K c W) (runs_bind (wp_first A K c (beside A c)) (runs_bind (wp_loop A K c (beside A c)) (leave A K c)))

end Cert.Proof

end
-- ==== Proof.Ring.Deal.lean ====
/-
  What the launch deals: the ring's ghost state, one device's share of it, and the credits.
-/
module

public import proofs.«01_k».proof.Proof.Ring.Body

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

abbrev Sy := Unit ⊕ (Key ⊕ Slot)

variable (A : Ops F) (K : Dev nD × Sy → ℕ)

theorem ownSemFacts : Pipeline.OwnSemFacts cfg0.spec osem where
  isScoped := by decide +kernel
  inj := osem_injective
  disj := by decide +kernel

def ringCells : Finset (GSem nD τ sig) := Finset.univ.map ⟨fun ck : Dev nD × Sy => cell ck.1 ck.2, cell_injective⟩

/-! ## The duties' tokens -/

/-- A device's own cells' duties: its barrier's two, a send cell's fifteen, an arrival cell's one. -/
abbrev Duty := Bool ⊕ (Slot ⊕ Slot)
def dutyCell : Duty → Sy
  | .inl _ => .inl ()
  | .inr (.inl x) => .inr (.inl x.2)
  | .inr (.inr x) => .inr (.inr x)
def dutyRound : Duty → ℕ
  | .inr (.inl x) => x.1.val
  | _ => 0
def dutyName : Duty → Bool
  | .inl d => d
  | .inr _ => false

def tokOf (cd : Dev nD × Duty) : GSem nD τ sig × ℕ × Bool := (cell cd.1 (dutyCell cd.2), dutyRound cd.2, dutyName cd.2)

theorem duty_ext : ∀ a b : Duty, dutyCell a = dutyCell b → dutyRound a = dutyRound b → dutyName a = dutyName b → a = b
  | .inl d, .inl d', _, _, h => congrArg Sum.inl h
  | .inl _, .inr (.inl _), h, _, _ => nomatch h
  | .inl _, .inr (.inr _), h, _, _ => nomatch h
  | .inr (.inl _), .inl _, h, _, _ => nomatch h
  | .inr (.inr _), .inl _, h, _, _ => nomatch h
  | .inr (.inl x), .inr (.inl y), h1, h2, _ => congrArg (Sum.inr ∘ Sum.inl) (Prod.ext (Fin.ext h2) (Sum.inl.inj (Sum.inr.inj h1)))
  | .inr (.inl _), .inr (.inr _), h, _, _ => nomatch (Sum.inr.inj h)
  | .inr (.inr _), .inr (.inl _), h, _, _ => nomatch (Sum.inr.inj h)
  | .inr (.inr x), .inr (.inr y), h1, _, _ => congrArg (Sum.inr ∘ Sum.inr) (Sum.inr.inj (Sum.inr.inj h1))

theorem tokOf_injective : Function.Injective tokOf := by
  rintro ⟨c, a⟩ ⟨c', b⟩ h
  have h1 : (c, dutyCell a) = (c', dutyCell b) := cell_injective (congrArg Prod.fst h)
  have h2 := congrArg (fun x : GSem nD τ sig × ℕ × Bool => x.2.1) h
  have h3 := congrArg (fun x : GSem nD τ sig × ℕ × Bool => x.2.2) h
  have h4 : a = b := duty_ext a b (congrArg Prod.snd h1) h2 h3
  have h5 : c = c' := congrArg Prod.fst h1
  subst h4; subst h5; rfl

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of the duties of device `c`'s own cells, and of those it pays. -/
def toks (c : Dev nD) : sProp 𝕄 :=
  iprop((dutyTok ER (barC c) 0 false ∗ dutyTok ER (barC c) 0 true)
    ∗ allSlots (F := F) (fun x => dutyTok ER (sndC c x.2) x.1.val false) ∗ allSlots (F := F) (fun x => dutyTok ER (rcvC c x) 0 false))
def payToks (c : Dev nD) : sProp 𝕄 :=
  iprop((dutyTok ER (barC (nbr true c)) 0 false ∗ dutyTok ER (barC (nbr false c)) 0 true)
    ∗ allSlots (F := F) (fun x => dutyTok ER (sndC c x.2) x.1.val false) ∗ allSlots (F := F) (fun x => dutyTok ER (rcvC (nbr x.2.1 c) x) 0 false))

theorem toks_eq (c : Dev nD) : (bigSep Finset.univ fun a : Duty => (dutyTok ER (cell c (dutyCell a)) (dutyRound a) (dutyName a) : sProp 𝕄)) = toks c := by
  unfold toks
  rw [bigSep_univ_sum, bigSep_univ_sum, bigSep_univ_slot, bigSep_univ_slot, bigSep_univ_eq_bigSepL [false, true] (by decide) (by decide), bigSepL_cons_cons, bigSepL_singleton]
  rfl

/-- The ring of every arrival's direction at once. -/
def arrivals : Dev nD × Slot ≃ Dev nD × Slot where
  toFun p := (nbr p.2.2.1 p.1, p.2)
  invFun p := (nbr (!p.2.2.1) p.1, p.2)
  left_inv p := Prod.ext (nbr_nbr' p.2.2.1 p.1) rfl
  right_inv p := Prod.ext (nbr_nbr p.2.2.1 p.1) rfl

theorem arrivals_around (Φ : Dev nD → Slot → sProp 𝕄) :
    (bigSep Finset.univ fun c : Dev nD => allSlots (F := F) (Φ c)) = bigSep Finset.univ fun c : Dev nD => allSlots (F := F) fun x => Φ (nbr x.2.1 c) x := by
  rw [bigSep_congr (s := Finset.univ) (fun (c : Dev nD) _ => (bigSep_univ_slot (F := F) (Φ c)).symm),
    bigSep_congr (s := Finset.univ) (fun (c : Dev nD) _ => (bigSep_univ_slot (F := F) (fun x => Φ (nbr x.2.1 c) x)).symm),
    ← bigSep_univ_prod (fun p : Dev nD × Slot => Φ p.1 p.2), bigSep_univ_equiv arrivals, bigSep_univ_prod]
  rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv (ring true) (fun c : Dev nD => (dutyTok ER (barC c) 0 false : sProp 𝕄)),
    bigSep_univ_equiv (ring false) (fun c : Dev nD => (dutyTok ER (barC c) 0 true : sProp 𝕄)),
    arrivals_around (F := F) (fun c x => dutyTok ER (rcvC c x) 0 false)]
  exact BI.Entails.refl _

/-! ## A device's share -/

abbrev allCells (Φ : Sy → sProp 𝕄) : sProp 𝕄 := bigSep Finset.univ Φ

theorem allCells_eq (Φ : Sy → sProp 𝕄) : allCells (F := F) Φ = iprop(Φ (.inl ()) ∗ allKeys (F := F) (fun k => Φ (.inr (.inl k))) ∗ allSlots (F := F) (fun x => Φ (.inr (.inr x)))) := by
  unfold allCells
  rw [bigSep_univ_sum, bigSep_univ_sum, bigSep_univ_slot, bigSep_univ_eq_bigSepL [()] (by decide) (by decide), bigSepL_singleton]
  rfl

def G (c : Dev nD) : sProp 𝕄 :=
  iprop(allCells (F := F) (fun k => roundState ER (Rd A) (cell c k) 0)
    ∗ allCells (F := F) (fun k => iprop(atPos ER (cell c k) 0 ∅ 0 ∗ reached ER (cell c k) 0)) ∗ toks c)

def G' (c : Dev nD) : sProp 𝕄 := iprop(∃ K : Dev nD × Sy → ℕ, records A K ∗ mine (F := F) c)

theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => allCells (F := F) fun k => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq (F := F) c
  iintro HX
  imod (Rounds.fund ER (Rd A) ringCells ringToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems0_eq (c : Dev nD) :
    iprop(Pipeline.ownSems0 (Ix := Unit) (Name := ℕ) (U := UU) (Lvl := ℕ) (Val := Elt F) (τ := τ) osem c ∗ unscopedSems0 c)
      ⊢ (allCells (F := F) fun k => semVal (cell c k) 0) := by
  rw [ownSems0_eq, unscopedSems0_eq, allCells_eq]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop(allCells (F := F) (fun k => iprop(∃ κ : ℕ, cellInv ER (Rd A) κ (cell c k)))
          ∗ allCells (F := F) (fun k => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop(allCells (F := F) (fun k => semVal (cell c k) 0) ∗ allCells (F := F) fun k => roundState ER (Rd A) (cell c k) 0)
      ⊢ (|={Set.univ}=> allCells (F := F) fun k => iprop(∃ κ : ℕ, cellInv ER (Rd A) κ (cell c k)) : sProp 𝕄) from by
        unfold allCells
        rw [← bigSep_sep']
        exact (bigSep_mono fun k _ => (Rounds.body_intro ER (Rd A) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem mine_intro (c : Dev nD) : iprop(allCells (F := F) (fun k => atPos ER (cell c k) 0 ∅ 0) ∗ payToks (F := F) c) ⊢ mine (F := F) c := by
  rw [allCells_eq]
  unfold mine payToks
  iintro ⟨⟨HB, HS, HR⟩, Ht⟩
  isplitl [HB]; · iexact HB
  isplitl [HS]; · iexact HS
  isplitl [HR]; · iexact HR
  iexact Ht

theorem share_intro (c : Dev nD) : iprop(records A K ∗ mine (F := F) c) ⊢ G' A c := by
  unfold G'
  iintro H
  iexists K
  iexact H

theorem regroup :
    (bigSep Finset.univ fun c : Dev nD => iprop(allCells (F := F) (fun k => iprop(∃ κ : ℕ, cellInv ER (Rd A) κ (cell c k)))
          ∗ allCells (F := F) (fun k => iprop(atPos ER (cell c k) 0 ∅ 0 ∗ reached ER (cell c k) 0)) ∗ toks c) : sProp 𝕄)
      ⊢ bigSep Finset.univ (G' A) := by
  unfold allCells
  rw [bigSep_sep', bigSep_sep', ← bigSep_univ_prod (fun ck : Dev nD × Sy => iprop(∃ κ : ℕ, cellInv ER (Rd A) κ (cell ck.1 ck.2))),
    bigSep_congr (s := Finset.univ) (fun (c : Dev nD) _ => bigSep_sep' Finset.univ (fun k : Sy => (atPos ER (cell c k) 0 ∅ 0 : sProp 𝕄)) (fun k => reached ER (cell c k) 0)),
    bigSep_sep', ← bigSep_univ_prod (fun ck : Dev nD × Sy => (reached ER (cell ck.1 ck.2) 0 : sProp 𝕄))]
  iintro ⟨HI, ⟨Hat, #HR⟩, Htok⟩
  ihave HK := (BI.bigSep_exists_pi Finset.univ (fun (ck : Dev nD × Sy) (κ : ℕ) => (cellInv ER (Rd A) κ (cell ck.1 ck.2) : sProp 𝕄))) $$ HI
  icases HK with ⟨%K, #HI⟩
  ihave Htk := (toks_around (F := F)) $$ Htok
  iapply (bigSep_with (R := records A K) fun c _ => share_intro A K c)
  isplitr
  · unfold records; isplitl; · iexact HI
    iexact HR
  · iapply ((Entails.of_eq (bigSep_sep' Finset.univ (fun c : Dev nD => allCells (F := F) fun k => atPos ER (cell c k) 0 ∅ 0) payToks).symm).trans
      (bigSep_mono fun c _ => mine_intro (F := F) c))
    isplitl [Hat]; · iexact Hat
    iexact Htk

/-- Every device's cells at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credits -/

theorem tally_cell (c c' : Dev nD) (k k' : Sy) (n : ℕ) : (tallyAt (cell c' k') () n : CellTallies nD τ sig Unit) (cell c k) () = if c' = c ∧ k' = k then n else 0 := by
  rw [tallyAt_apply]
  refine if_congr ⟨fun h => ?_, fun h => ⟨by rw [h.1, h.2], rfl⟩⟩ rfl rfl
  have h1 : (c, k) = (c', k') := cell_injective h.1
  exact ⟨(congrArg Prod.fst h1).symm, (congrArg Prod.snd h1).symm⟩

theorem nbr_eq (d : Bool) (a c : Dev nD) : nbr d a = c ↔ a = nbr (!d) c :=
  ⟨fun h => by rw [← h, nbr_nbr'], fun h => by rw [h, nbr_nbr]⟩

theorem Ow_cell (a c : Dev nD) (k : Sy) : Ow a Finset.univ (cell c k) () = ∑ x : Slot, if nbr x.2.1 a = c ∧ (.inr (.inr x) : Sy) = k then N else 0 := by
  unfold Ow
  rw [Finset.sum_apply, Finsupp.finset_sum_apply]
  exact Finset.sum_congr rfl fun x _ => tally_cell c _ k _ N

theorem owed_bar (a c : Dev nD) : O₀ a (barC c) () = (if a = nbr true c then 1 else 0) + (if a = nbr false c then 1 else 0) := by
  unfold O₀ O₁
  rw [Pi.add_apply, Finsupp.add_apply, Pi.add_apply, Finsupp.add_apply, Ow_cell, tally_cell, tally_cell,
    Finset.sum_eq_zero fun x _ => if_neg fun h => nomatch h.2]
  have e (d : Bool) : (nbr d a = c ∧ (.inl () : Sy) = .inl ()) ↔ a = nbr (!d) c := ⟨fun h => (nbr_eq d a c).mp h.1, fun h => ⟨(nbr_eq d a c).mpr h, rfl⟩⟩
  rw [if_congr (e false) rfl rfl, if_congr (e true) rfl rfl, Nat.zero_add]
  rfl

theorem owed_rcv (a c : Dev nD) (x : Slot) : O₀ a (rcvC c x) () = if a = nbr (!x.2.1) c then N else 0 := by
  unfold O₀ O₁
  rw [Pi.add_apply, Finsupp.add_apply, Pi.add_apply, Finsupp.add_apply, Ow_cell, tally_cell, tally_cell, if_neg (fun h => nomatch h.2), if_neg (fun h => nomatch h.2),
    Nat.add_zero, Finset.sum_eq_single x (fun y _ hy => if_neg fun h => hy (Sum.inr.inj (Sum.inr.inj h.2))) (fun h => absurd (Finset.mem_univ x) h)]
  exact if_congr ⟨fun h => (nbr_eq _ a c).mp h.1, fun h => ⟨(nbr_eq _ a c).mpr h, rfl⟩⟩ rfl rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun a _ => owed_bar a c, Finset.sum_add_distrib,
    Finset.sum_ite_eq' Finset.univ (nbr true c) fun _ => 1, Finset.sum_ite_eq' Finset.univ (nbr false c) fun _ => 1, if_pos (Finset.mem_univ _), if_pos (Finset.mem_univ _)]

theorem launch_rcv (c : Dev nD) (x : Slot) :
    tallyOn (rcvC c x) (launchCredit (Pipeline.owing O₀) 0 (rcvC c x)) = (tallyAt (rcvC c x) () N : CellTallies nD τ sig Unit) := by
  unfold tallyAt; refine congrArg _ (Finsupp.ext fun u => ?_); cases u
  rw [Pipeline.launchCredit_owing, Finsupp.single_eq_same, Finset.sum_congr rfl fun a _ => owed_rcv a c x, Finset.sum_ite_eq' Finset.univ (nbr (!x.2.1) c) fun _ => N,
    if_pos (Finset.mem_univ _)]

theorem creds_intro (c : Dev nD) : (Pipeline.launchCred O₀ c : sProp 𝕄) ⊢ creds (F := F) c := by
  unfold Pipeline.launchCred creds
  refine BI.Entails.trans (bigSep_subset (Finset.subset_univ (Finset.univ.map ⟨csem, csem_injective⟩))) ?_
  rw [bigSep_map]
  refine BI.Entails.trans (Entails.of_eq (allCells_eq (F := F) fun k => cred (tallyOn (cell c k) (launchCredit (Pipeline.owing O₀) 0 (cell c k))))) ?_
  rw [launch_bar]
  show (_ : sProp 𝕄) ⊢ (_ : sProp 𝕄)
  iintro ⟨HB, -, HR⟩
  isplitl [HB]; · iexact HB
  iapply (show allSlots (F := F) (fun x => cred (tallyOn (rcvC c x) (launchCredit (Pipeline.owing O₀) 0 (rcvC c x)))) ⊢ allSlots (F := F) (fun x => cred (tallyAt (rcvC c x) () N)) from
    bigSep_mono fun k _ => bigSep_mono fun s _ => Entails.of_eq (congrArg cred (launch_rcv c (s, k))))
  iexact HR

end Cert.Proof

end
-- ==== Proof.Ring.BodyEq.lean ====
/-
  The printed body is the program of `Spec`: the kernel of the proof checker unfolds the printed parts against it.
-/
module

public import proofs.«01_k».proof.Proof.Ring.Spec
public import Idealize.ShloMosaic.Lib.Pipeline.Regions

@[expose] public section

noncomputable section

namespace Cert.Proof

open Cert.KernelIdeal Cert.KernelIdeal.Gen
open Idealize.ShloMosaic Idealize.SL.Sem

variable {F : FTy → Type} [FloatOps F]

set_option maxRecDepth 1000000 in
/-- The printed body on the kernel's scratch buffers and semaphores is `spec`. -/
theorem body_eq (x : Memref sig .tc .vmem S2048x128 .bf16) (hx : x.IsWhole) (w : Memref sig .tc .vmem S128x2048 .bf16) (hw : w.IsWhole)
    (o : Memref sig .tc .vmem S128x2048 .f32) (ho : o.IsWhole) :
    cc0_body (F := F) x hx w hw o ho (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 = spec x w o := by
  chain_rfl

end Cert.Proof
-- ==== Proof.Ring.Launch.lean ====
/-
  The launch: every fair execution of the kernel terminates with the result's block on every device, the operands as
  they were, every semaphore at zero.
-/
module

public import proofs.«01_k».proof.Proof.Ring.Deal
public import proofs.«01_k».proof.Proof.Ring.BodyEq
public import Idealize.ShloMosaic.Lib.Pipeline.CollectiveSegs

@[expose] public section

set_option maxRecDepth 100000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The memory at launch: any contents, every semaphore at zero. -/
def st₀ : MemSt nD τ sig (Elt F) := ⟨m, fun _ => 0, ρ⟩

/-- The operands on every device, as staged. -/
def ops : Ops F where
  x c := (win0_0.blk (0 : Fin 1)).view.read (Elt F) ((st₀ m ρ).mem ((c : Thread nD τ).loc main_arg0))
  w c := (win0_1.blk (0 : Fin 1)).view.read (Elt F) ((st₀ m ρ).mem ((c : Thread nD τ).loc main_arg1))

theorem cfg0_N : cfg0.N = 1 := by decide
def pt : Fin cfg0.N := ⟨0, by rw [cfg0_N]; decide⟩
theorem eq_pt (t : Fin cfg0.N) : t = pt := by
  obtain ⟨t, ht⟩ := t
  have := cfg0_N
  exact Fin.ext (show t = 0 by omega)

/-- What device `c`'s body starts from besides its windows and buffers. -/
def start (c : Dev nD) : sProp 𝕄 := iprop(G' (ops m ρ) c ∗ creds (F := F) c ∗ levAts L lv)
def Φ₀ (c : Dev nD) : sProp 𝕄 := iprop(start m ρ c ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (ops m ρ).x c
    | ⟨1, _⟩ => (ops m ρ).w c
    | ⟨2, _⟩ => outV (ops m ρ) c
  Φ t := match t with
    | ⟨0, _⟩ => Φ₀ m ρ c
    | ⟨_ + 1, _⟩ => atEnd (F := F) c
  q _ := fullShare
  owed t := match t with
    | ⟨0, _⟩ => O₀ c
    | ⟨_ + 1, _⟩ => 0

/-! ## The body -/

theorem fetch_0 (t : Fin cfg0.N) : (cfg0.win (0 : Fin 3)).fetch t = true := by rw [eq_pt t]; rfl
theorem fetch_1 (t : Fin cfg0.N) : (cfg0.win (1 : Fin 3)).fetch t = true := by rw [eq_pt t]; rfl

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () pt.castSucc
    ∗ (∃ d, stg c cc0_stg0_0 ((dats m ρ 0 c).before (0 : Fin 3) pt d))
    ∗ (∃ d, stg c cc0_stg1_0 ((dats m ρ 0 c).before (1 : Fin 3) pt d))
    ∗ (∃ d, stg c cc0_stg2_0 ((dats m ρ 0 c).before (2 : Fin 3) pt d)))

def bodyPost (c : Dev nD) : sProp 𝕄 :=
  iprop(atEnd (F := F) c ∗ (dats m ρ 0 c).owesAt () pt.succ ∗ stg c cc0_stg0_0 ((ops m ρ).x c) ∗ stg c cc0_stg1_0 ((ops m ρ).w c)
    ∗ stg c cc0_stg2_0 (outV (ops m ρ) c))

theorem body_post (c : Dev nD) :
    iprop(atEnd (F := F) c ∗ owing c ∅ ∗ staged (ops m ρ) c ∗ oM.view.loc (c : Thread nD τ) ↦[Finset.univ]{fullShare} outV (ops m ρ) c) ⊢ bodyPost m ρ c := by
  unfold bodyPost owing staged Dat.owesAt Pipeline.owesWithin
  rw [Ow_empty]
  iintro ⟨He, ⟨%W, HO⟩, ⟨Hx, Hw⟩, Hout⟩
  isplitl [He]; · iexact He
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem sound_body (c : Dev nD) : bodyPre m ρ c ⊢ runs c (spec xM wM oM) (fun _ => bodyPost m ρ c) := by
  unfold bodyPre Φ₀ start G'
  iintro ⟨⟨⟨⟨%K, HR, Hm⟩, Hc, Hl⟩, Hs⟩, Ho, ⟨%d0, %g0, %hg0, Hx⟩, ⟨%d1, %g1, %hg1, Hw⟩, ⟨%d2, %g2, -, Hout⟩⟩
  have hx : g0 = (ops m ρ).x c := by rw [hg0]; unfold Dat.before; rw [if_pos (fetch_0 pt)]; rfl
  have hw : g1 = (ops m ρ).w c := by rw [hg1]; unfold Dat.before; rw [if_pos (fetch_1 pt)]; rfl
  subst hx
  subst hw
  unfold Dat.owesAt Pipeline.owesWithin
  icases Ho with ⟨%W, -, HO⟩
  iapply (wp_spec (ops m ρ) K c W |>.trans (wp_mono _ _ _ fun _ => body_post m ρ c))
  isplitl [HR Hl]
  · unfold ctx levs
    isplitl [HR]; · iexact HR
    iexact Hl
  isplitl [Hm]; · iexact Hm
  isplitl [Hc]; · iexact Hc
  isplitl [Hs]; · iexact Hs
  isplitl [HO]; · iexact HO
  isplitl [Hx Hw]
  · unfold staged
    isplitl [Hx]; · iexact Hx
    iexact Hw
  unfold outAny
  iexists g2
  iexact Hout

theorem body_obligation (c : Dev nD) : BodyObligation (dats (F := F) m ρ 0 c) (defs₀ (F := F)) 𝒱₀ () Set.univ := fun t => by
  rw [eq_pt t]
  rw [bigSep_W, bigSep_W]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9) (fun _ => bodyPost m ρ c)
  rw [body_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ops m ρ) c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = atEnd (F := F) c from rfl]
  unfold atEnd
  exact BI.Entails.refl _

theorem waits_stage (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values and from any memory with semaphores at zero, every fair execution on the sixteen devices
    terminates with each window's array at its computed contents and every semaphore at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_stage m ρ)
    (G := G (ops m ρ)) (G' := G' (ops m ρ)) (u₀ := u₀)
    (hu₀ := by
      unfold u₀
      iintro Hu
      ihave H := (ownU_pair _ _) $$ Hu
      icases H with ⟨HP, HX⟩
      imod (fund_ring (ops m ρ)) $$ HX with HG
      imodintro
      isplitl [HP] <;> iassumption)
    (hglob := glob (ops m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.Proof

end
-- ==== Proof.Frames.lean ====
/-
  The frames: each program terminates, keeps its arguments and ends with every semaphore at zero. The kernel's two
  programs have one text, so the run stated for any float values gives both.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Ring.Launch
public import Idealize.ShloMosaic.Lib.Quiescent

@[expose] public section

set_option maxRecDepth 1000000

noncomputable section

namespace Cert.Proof

open Idealize.ShloMosaic Idealize.ShloMosaic.TcCoe Idealize.SL.Sem

/-- The kernel, for any float values, keeps its arguments and its semaphores end at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

/-- The idealized kernel keeps its arguments and its semaphores end at zero. -/
theorem frame_kernelIdeal : Cert.quiescent_KernelIdeal := fun m ρ _ => frame_any m ρ

/-- The reference keeps its arguments; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs' tables of bodies are one. -/
theorem bodies_eq : Cert.Kernel.defs₀ (F := Bits) = Cert.KernelIdeal.defs₀ (F := Bits) :=
  congrArg Defs.onTc (funext fun | 0 => funext fun (t, s) => rfl | ⟨_ + 1, h⟩ => absurd h (Nat.not_lt.2 (Nat.le_add_left _ _)))
theorem defs_eq : Cert.Kernel.defs (F := Bits) = Cert.KernelIdeal.defs (F := Bits) :=
  congrArg (Pipeline.defs Cert.Kernel.pcfgs) bodies_eq

/-- The printed kernel keeps its arguments and its semaphores end at zero. -/
theorem frame_kernel : Cert.quiescent_Kernel := fun m ρ _ => by
  rw [defs_eq]
  exact frame_any (F := Bits) m ρ

end Cert.Proof

end
-- ==== Proof.Ring.Sums.lean ====
/-
  What a device's result is over the extended reals: the partial sum that travels the ring collects every device's product
  for one row block once, so the sum over the hops is the sum over the sixteen devices.
-/
module

public import proofs.«01_k».proof.Proof.Ring.Body
public import Idealize.ShloMosaic.PureOps.Ideal.Laws
public import Idealize.ShloMosaic.Lib.MatmulPlain

@[expose] public section

set_option maxRecDepth 100000

noncomputable section

namespace Cert.Proof

open Cert.KernelIdeal Cert.KernelIdeal.Gen
open Idealize.ShloMosaic Idealize.ShloMosaic.TcCoe Idealize.ShloMosaic.ValueIdx
open scoped BigOperators

/-! ## Whose rows a hop works on -/

/-- The device whose row block a device computes at step `s`. -/
def tgt (d : Bool) (c : Dev nD) (s : Fin 15) : Dev nD := Fin.ofNat 16 (rowOff d c s 0 / 128)

/-- Its rows begin at a multiple of 128. -/
theorem rowOff_eq : ∀ (d : Bool) (c : Dev nD) (s : Fin 15), rowOff d c s = ![128 * (tgt d c s).val, 0] := by decide +kernel
/-- What arrives from the neighbour behind is about the same row block. -/
theorem tgt_back : ∀ (d : Bool) (c : Dev nD) (s : Fin 14), tgt d (nbr (!d) c) s.castSucc = tgt d c s.succ := by decide +kernel
/-- What arrives last is about the device's own row block. -/
theorem tgt_last : ∀ (d : Bool) (c : Dev nD), tgt d (nbr (!d) c) 14 = c := by decide +kernel

/-- The device `u` hops behind. -/
def behind (d : Bool) (c : Dev nD) : ℕ → Dev nD
  | 0 => c
  | u + 1 => behind d (nbr (!d) c) u

/-- Sixteen hops visit every device once. -/
theorem behind_bij (d : Bool) (c : Dev nD) : Function.Bijective (fun u : Fin 16 => behind d c u.val) :=
  Finite.injective_iff_bijective.1 (by revert d c; unfold Function.Injective; decide +kernel)

/-- A sum over the devices behind, with the device itself put first. -/
theorem sum_behind (f : Dev nD → EReal) (d : Bool) (c : Dev nD) (n : ℕ) :
    f c + ∑ u ∈ Finset.range n, f (behind d (nbr (!d) c) u) = ∑ u ∈ Finset.range (n + 1), f (behind d c u) :=
  (add_comm _ _).trans (Finset.sum_range_succ' (fun u => f (behind d c u)) n).symm

/-! ## The sums -/

variable (A : Ops Ideal)

/-- Device `e`'s share of the element at row `r` of device `t`'s row block and column `j`. -/
def part (t : Dev nD) (r : Fin 128) (j : Fin 2048) (e : Dev nD) : EReal :=
  ∑ q : Fin 128, A.x e (ix2 ⟨128 * t.val + r.val, by have h1 : t.val < 16 := t.isLt; have h2 := r.isLt; show _ < 2048; omega⟩ q) * A.w e (ix2 q j)

/-- The column of the result that column `l` of piece `k` is. -/
def colOf (k : Key) (l : Fin 256) : Fin 2048 :=
  ⟨col k.1 k.2 + l.val, by have h := col_inb k.1 k.2 1; have h' : col k.1 k.2 + 256 ≤ 2048 := h; have := l.isLt; omega⟩

theorem prod_apply (a : Vec Ideal S128x128 .bf16) (b : Vec Ideal S128x256 .bf16) (r : Fin 128) (l : Fin 256) :
    prod a b (ix2 r l) = ∑ q : Fin 128, a (ix2 r q) * b (ix2 q l) := by
  refine (Ideal.matmul_plain_apply (φ₁ := .bf16) (φ₂ := .bf16) none a b (constant S128x256 .f32 0x00000000#32) r l).trans ?_
  show Ideal.ofBits .f32 0x00000000#32 + _ = _
  rw [Ideal.ofBits_zero_f32, zero_add]

theorem cols_apply (k : Key) (e : Dev nD) (q : Fin 128) (l : Fin 256) : cols A k e (ix2 q l) = A.w e (ix2 q (colOf k l)) := by
  show A.w e ((colRect k.1 k.2).emb (ix2 q l)) = _
  refine congrArg (A.w e) (funext fun | 0 => Fin.ext ?_ | 1 => Fin.ext ?_)
  · show 0 + 1 * q.val = q.val; omega
  · show col k.1 k.2 + 1 * l.val = col k.1 k.2 + l.val; omega

theorem rows_apply (d : Bool) (s : Fin 15) (c : Dev nD) (r q : Fin 128) (h) :
    rows A d s c (ix2 r q) = A.x c (ix2 ⟨128 * (tgt d c s).val + r.val, h⟩ q) := by
  show A.x c ((rowRect d c s).emb (ix2 r q)) = _
  refine congrArg (A.x c) (funext fun | 0 => Fin.ext ?_ | 1 => Fin.ext ?_)
  · show rowOff d c s 0 + 1 * r.val = 128 * (tgt d c s).val + r.val
    rw [rowOff_eq, Nat.one_mul]; rfl
  · show rowOff d c s 1 + 1 * q.val = q.val
    rw [rowOff_eq, Nat.one_mul]; exact Nat.zero_add _

theorem own_apply (c : Dev nD) (r q : Fin 128) (h) : own A c (ix2 r q) = A.x c (ix2 ⟨128 * c.val + r.val, h⟩ q) := by
  show A.x c ((ownRect c).emb (ix2 r q)) = _
  refine congrArg (A.x c) (funext fun | 0 => Fin.ext ?_ | 1 => Fin.ext ?_)
  · show k0_off3 c 0 + 1 * r.val = 128 * c.val + r.val
    rw [k0_off3_eq, Nat.one_mul]; rfl
  · show k0_off3 c 1 + 1 * q.val = q.val
    rw [k0_off3_eq, Nat.one_mul]; exact Nat.zero_add _

/-- A hop's own product is the device's share of the row block's element. -/
theorem piece_apply (k : Key) (s : Fin 15) (c : Dev nD) (r : Fin 128) (l : Fin 256) :
    piece (rows A k.1 s c) (cols A k c) (ix2 r l) = part A (tgt k.1 c s) r (colOf k l) c := by
  show prod (rows A k.1 s c) (cols A k c) (ix2 r l) = _
  rw [prod_apply]
  exact Finset.sum_congr rfl fun q _ => by rw [rows_apply, cols_apply]

/-- The product for the device's own row block is its share too. -/
theorem own_prod_apply (k : Key) (c : Dev nD) (r : Fin 128) (l : Fin 256) :
    prod (own A c) (cols A k c) (ix2 r l) = part A c r (colOf k l) c := by
  rw [prod_apply]
  exact Finset.sum_congr rfl fun q _ => by rw [own_apply, cols_apply]

/-- The partial sum a device sends at step `s` holds the shares of itself and of the `s` devices behind it. -/
theorem acc_apply (k : Key) (r : Fin 128) (l : Fin 256) : ∀ (s : ℕ) (h : s < 15) (c : Dev nD),
    acc A k s h c (ix2 r l) = ∑ u ∈ Finset.range (s + 1), part A (tgt k.1 c ⟨s, h⟩) r (colOf k l) (behind k.1 c u)
  | 0, h, c => by rw [Finset.sum_range_one]; exact piece_apply A k ⟨0, h⟩ c r l
  | s + 1, h, c => by
    show piece (rows A k.1 ⟨s + 1, h⟩ c) (cols A k c) (ix2 r l) + acc A k s (Nat.lt_of_succ_lt h) (nbr (!k.1) c) (ix2 r l) = _
    rw [piece_apply, acc_apply k r l s]
    have ht : tgt k.1 (nbr (!k.1) c) ⟨s, Nat.lt_of_succ_lt h⟩ = tgt k.1 c ⟨s + 1, h⟩ := tgt_back k.1 c ⟨s, Nat.lt_of_succ_lt_succ h⟩
    rw [ht]
    exact sum_behind (part A (tgt k.1 c ⟨s + 1, h⟩) r (colOf k l)) k.1 c (s + 1)

/-- A device's result: the sum of all sixteen devices' shares, clamped at zero. -/
theorem outV_apply (c : Dev nD) (r : Fin 128) (j : Fin 2048) :
    outV A c (ix2 r j) = max (∑ e : Dev nD, part A c r j e) (Ideal.ofBits .f32 0x00000000#32) := by
  have hj : colOf (keyOf j.val) ⟨j.val % 256, Nat.mod_lt _ (by decide)⟩ = j := Fin.ext (col_keyOf j.val j.isLt)
  have hi : inPiece (ix2 r j) = ix2 r ⟨j.val % 256, Nat.mod_lt _ (by decide)⟩ := funext fun | 0 => rfl | 1 => rfl
  show res A (keyOf j.val) c (inPiece (ix2 r j)) = _
  rw [hi]
  show max (prod (own A c) (cols A (keyOf j.val) c) (ix2 r _) + acc A (keyOf j.val) 14 (by decide) (nbr (!(keyOf j.val).1) c) (ix2 r _)) _ = _
  rw [own_prod_apply, acc_apply, hj]
  have ht : tgt (keyOf j.val).1 (nbr (!(keyOf j.val).1) c) ⟨14, by decide⟩ = c := tgt_last _ c
  rw [ht, ← (behind_bij (keyOf j.val).1 c).sum_comp (fun e => part A c r j e), Fin.sum_univ_eq_sum_range (fun u => part A c r j (behind (keyOf j.val).1 c u)) 16]
  exact congrArg (max · _) (sum_behind (part A c r j) (keyOf j.val).1 c 15)

end Cert.Proof

end
-- ==== Proof.Value.lean ====
/-
  The value: on the extended reals device `c`'s result is block `c` of the rows of the reference's result. The kernel sums
  the devices' shares, each over 128 columns of `x`; the reference sums over all 2048 columns at once.
-/
module

public import proofs.«01_k».proof.Proof.Frames
public import proofs.«01_k».proof.Proof.Ring.Sums
public import Idealize.ShloMosaic.Lib.Layout
public import Idealize.ShloMosaic.Lib.StackMember

@[expose] public section

set_option maxRecDepth 100000

noncomputable section

namespace Cert.Proof

open Idealize.ShloMosaic Idealize.ShloMosaic.TcCoe Idealize.ShloMosaic.ValueIdx Idealize.SL.Sem
open scoped BigOperators

/-! ## The arrays around the run -/

section Arrays
open Cert.KernelIdeal Cert.KernelIdeal.Gen
variable {F : FTy → Type} [FloatOps F] (m : (ℓ : Loc nD τ sig) → Buf (Elt F) ℓ) (ρ : Dev nD → PrngReg)

/-- The operands as staged are the argument arrays. -/
theorem ops_x (c : Dev nD) : (ops m ρ).x c = m ((c : Thread nD τ).loc main_arg0) := by
  show (win0_0.blk (0 : Fin 1)).view.read (Elt F) (m ((c : Thread nD τ).loc main_arg0)) = _
  exact Memref.read_access_unit_zero (Elt F) main_arg0 (off := fun a => win0_0.index (0 : Fin 1) a * main_arg0.ty.shape.size a)
    (funext fun a => by fin_cases a <;> decide) (fun a => by fin_cases a <;> decide) _
theorem ops_w (c : Dev nD) : (ops m ρ).w c = m ((c : Thread nD τ).loc main_arg1) := by
  show (win0_1.blk (0 : Fin 1)).view.read (Elt F) (m ((c : Thread nD τ).loc main_arg1)) = _
  exact Memref.read_access_unit_zero (Elt F) main_arg1 (off := fun a => win0_1.index (0 : Fin 1) a * main_arg1.ty.shape.size a)
    (funext fun a => by fin_cases a <;> decide) (fun a => by fin_cases a <;> decide) _

/-- The result's array after the run is what the body computed. -/
theorem finalA_o (c : Dev nD) : finalA m ρ c (2 : Fin 3) = outV (ops m ρ) c := by
  have h : (win0_2.blk (0 : Fin 1)).view.read (Elt F) (finalA m ρ c (2 : Fin 3)) = outV (ops m ρ) c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt F) main_v1 (off := fun a => win0_2.index (0 : Fin 1) a * main_v1.ty.shape.size a)
    (funext fun a => by fin_cases a <;> decide) (fun a => by fin_cases a <;> decide) _).symm.trans h

end Arrays

/-! ## The reference's result -/

open Cert.ReferenceIdeal Cert.ReferenceIdeal.Gen in
/-- What the reference computes of whole arrays. -/
def refV (X W : Vec Ideal S2048x2048 .bf16) : FVec Ideal S2048x2048 .f32 :=
  maximumf (extf .f32 (truncf .bf16 (Host.dotGeneral (F := Ideal) (φ₁ := .bf16) (φ₂ := .bf16) dot_S2048x2048_S2048x2048_S2048x2048_1_0_0_1_n_n none X W) bitsLt_bf16_f32) bitsLt_bf16_f32)
    (broadcastInDim S2048x2048 ![] bcast_S_S2048x2048 (constant S_ .f32 0x00000000#32))

/-- An element of it: a sum over the 2048 columns of `X`, clamped at zero. -/
theorem refV_apply (X W : Vec Ideal Cert.ReferenceIdeal.S2048x2048 .bf16) (R j : Fin 2048) :
    refV X W (ix2 R j) = max (∑ k : Fin 2048, X (ix2 R k) * W (ix2 k j)) (Ideal.ofBits .f32 0x00000000#32) :=
  congrArg (max · (Ideal.ofBits .f32 0x00000000#32)) (StackMember.dotGeneral_plain_apply (φ₁ := .bf16) (φ₂ := .bf16) none X W R j)

/-- A sum over 2048 columns is the sum over sixteen blocks of 128. -/
theorem sum_blocks (f : Fin 2048 → EReal) :
    ∑ k : Fin 2048, f k = ∑ e : Fin 16, ∑ q : Fin 128, f ⟨e.val * 128 + q.val, by have := e.isLt; have := q.isLt; omega⟩ := by
  rw [← Fintype.sum_prod_type', ← Equiv.sum_comp (finProdFinEquiv (m := 16) (n := 128))]
  exact Finset.sum_congr rfl fun p _ => congrArg f (Fin.ext (by show p.2.val + 128 * p.1.val = p.1.val * 128 + p.2.val; omega))

/-- Sixteen devices whose operands are the blocks of `X` and `W` compute the blocks of the reference's result. -/
theorem outV_block (A : Ops Ideal) (X W : Vec Ideal Cert.ReferenceIdeal.S2048x2048 .bf16)
    (hx : ∀ c, A.x c = Layout.block ⟨2, ![2048, 128]⟩ ⟨2, ![2048, 2048]⟩ 1 16 c X)
    (hw : ∀ c, A.w c = Layout.block ⟨2, ![128, 2048]⟩ ⟨2, ![2048, 2048]⟩ 0 16 c W) (c : Dev Cert.KernelIdeal.nD) :
    outV A c = Layout.block ⟨2, ![128, 2048]⟩ ⟨2, ![2048, 2048]⟩ 0 16 c (refV X W) := funext fun i => by
  obtain ⟨r, j, rfl⟩ : ∃ (r : Fin 128) (j : Fin 2048), i = ix2 r j := ⟨i 0, i 1, eq_ix2 i⟩
  have hR : c.val * 128 + r.val < 2048 := by have h1 : c.val < 16 := c.isLt; have h2 := r.isLt; omega
  have hb : ∀ v : Cert.ReferenceIdeal.S2048x2048.Idx → EReal,
      Layout.block ⟨2, ![128, 2048]⟩ ⟨2, ![2048, 2048]⟩ 0 16 c v (by decide) (ix2 r j) = v (ix2 ⟨c.val * 128 + r.val, hR⟩ j) :=
    fun v => congrArg v (funext fun | 0 => rfl | 1 => rfl)
  refine Eq.trans ?_ (hb _).symm
  rw [outV_apply, refV_apply, sum_blocks]
  refine congrArg (max · _) (Finset.sum_congr rfl fun e _ => Finset.sum_congr rfl fun q _ => ?_)
  rw [hx e, hw e]
  exact congrArg₂ (· * ·)
    (congrArg X (funext fun | 0 => Fin.ext (by show 128 * c.val + r.val = c.val * 128 + r.val; omega) | 1 => rfl))
    (congrArg W (funext fun | 0 => rfl | 1 => rfl))

/-! ## The claim -/

/-- From operands that are the blocks of the reference's arguments, every fair execution of the kernel ends with device
    `c`'s result at block `c` of the reference's result. -/
theorem algebraic : Cert.algebraic_KernelIdeal_ReferenceIdeal := fun m g m' g' _ hag => by
  refine ⟨refV (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · refine (θ_run Cert.KernelIdeal.defs _ _).mono (fun _ h c =>
      ⟨((h.1 c (2 : Fin 3)).trans (finalA_o m g c)).trans ?_, (h.1 c (0 : Fin 3)).trans (finalA_x m g c),
        (h.1 c (1 : Fin 3)).trans (finalA_w m g c)⟩) (run_main m g)
    exact outV_block (ops m g) _ _ (fun e => (ops_x m g e).trans (hag e).1) (fun e => (ops_w m g e).trans (hag e).2) c
  · exact (θ_run Cert.ReferenceIdeal.defs _ _).mono (fun _ h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, frame_kernel, frame_kernelIdeal, frame_referenceIdeal, trivial, algebraic⟩

end Cert.Proof

end
